-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![8192, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![8192]⟩ (Layout.meshBlock [2, 4, 4] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Layout.blockN ⟨2, ![2048, 1024]⟩ ⟨2, ![8192, 1024]⟩ (Layout.meshBlock [2, 4, 4] ![[1], []] c) ((Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![2048, 1024]⟩ : Shape).Idx → _) i = 1#1 → r.2.mem ((c.tc : Thread Cert.KernelIdeal.nD Cert.KernelIdeal.τ).loc Cert.KernelIdeal.main_v19) i = (Layout.blockN ⟨2, ![2048, 1024]⟩ ⟨2, ![8192, 1024]⟩ (Layout.meshBlock [2, 4, 4] ![[1], []] c) v0 : (⟨2, ![2048, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 1024]⟩ : Shape).Idx, (Cert.On_routed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_routed (hKernelIdeal := hKernelIdeal) (hReferenceIdeal := hReferenceIdeal) (hOn_routed := hOn_routed)
-- ==== On_routed.lean ====
abbrev S8192x1024 : Shape := ⟨2, ![8192, 1024]⟩
abbrev S8192 : Shape := ⟨1, ![8192]⟩
abbrev S1x4x2048 : Shape := ⟨3, ![1, 4, 2048]⟩
abbrev S4 : Shape := ⟨1, ![4]⟩
abbrev S4x1x1 : Shape := ⟨3, ![4, 1, 1]⟩
abbrev S4x4x2048 : Shape := ⟨3, ![4, 4, 2048]⟩
abbrev S_ : Shape := ⟨0, ![]⟩
abbrev S4x4 : Shape := ⟨2, ![4, 4]⟩

class Facts : Prop where
  shapeCasts_S8192_S1x4x2048 : S8192.ShapeCasts S1x4x2048
  shapeCasts_S4_S4x1x1 : S4.ShapeCasts S4x1x1
  bcast_S1x4x2048_S4x4x2048_0_1_2 : S1x4x2048.BroadcastsInDim S4x4x2048 (![0, 1, 2] : Fin 3 → Fin S4x4x2048.rank)
  bcast_S4x1x1_S4x4x2048_0_1_2 : S4x1x1.BroadcastsInDim S4x4x2048 (![0, 1, 2] : Fin 3 → Fin S4x4x2048.rank)
  natLt_1_32 : 1 < 32
  reducesTo_S4x4x2048_S4x4_d2 : S4x4x2048.ReducesTo [2] S4x4
  h_S_ : 0 < S_.numel
  reducesTo_S4x4_S4_d1 : S4x4.ReducesTo [1] S4
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S8192x1024 : S_.BroadcastsInDim S8192x1024 (![] : Fin 0 → Fin S8192x1024.rank)

variable [Facts]

def fn {F : FTy → Type} [FloatOps F] (main_arg0 : FVec F S8192x1024 .bf16) (main_arg1 : IVec S8192 32) : IVec S8192x1024 1 :=
  let main_v0 : IVec S1x4x2048 32 := shapeCast S1x4x2048 main_arg1 shapeCasts_S8192_S1x4x2048
  let main_v1 : IVec S4 32 := iotaInDim S4 32 0
  let main_v2 : IVec S4x1x1 32 := shapeCast S4x1x1 main_v1 shapeCasts_S4_S4x1x1
  let main_v3 : IVec S4x4x2048 32 := broadcastInDim S4x4x2048 ![0, 1, 2] bcast_S1x4x2048_S4x4x2048_0_1_2 main_v0
  let main_v4 : IVec S4x4x2048 32 := broadcastInDim S4x4x2048 ![0, 1, 2] bcast_S4x1x1_S4x4x2048_0_1_2 main_v2
  let main_v5 : IVec S4x4x2048 1 := cmpi .eq main_v3 main_v4
  let main_v6 : IVec S4x4x2048 32 := (extui 32 · natLt_1_32) main_v5
  let main_c : IVec S_ 32 := constantI S_ 32 0#32
  let main_v7 : IVec S4x4 32 := (fun x v => Host.reduce IntOp.addi x v reducesTo_S4x4x2048_S4x4_d2 h_S_) main_v6 main_c
  let main_c_0 : IVec S_ 32 := constantI S_ 32 0#32
  let main_v8 : IVec S4 32 := (fun x v => Host.reduce IntOp.addi x v reducesTo_S4x4_S4_d1 h_S_) main_v7 main_c_0
  let main_c_1 : IVec S_ 32 := constantI S_ 32 2048#32
  let main_v9 : IVec S4 32 := broadcastInDim S4 ![] bcast_S_S4 main_c_1
  let main_v10 : IVec S4 1 := cmpi .eq main_v8 main_v9
  let main_c_2 : IVec S_ 1 := constantI S_ 1 1#1
  let main_v11 : IVec S_ 1 := (fun x v => Host.reduce IntOp.andi x v reducesTo_S4_S_d0 h_S_) main_v10 main_c_2
  let main_c_3 : IVec S_ 32 := constantI S_ 32 576#32
  let main_v12 : IVec S4x4 32 := broadcastInDim S4x4 ![] bcast_S_S4x4 main_c_3
  let main_v13 : IVec S4x4 1 := cmpi .sle main_v7 main_v12
  let main_c_4 : IVec S_ 1 := constantI S_ 1 1#1
  let main_v14 : IVec S_ 1 := (fun x v => Host.reduce IntOp.andi x v reducesTo_S4x4_S_d0_1 h_S_) main_v13 main_c_4
  let main_v15 : IVec S_ 1 := andi main_v11 main_v14
  let main_v16 : IVec S8192x1024 1 := broadcastInDim S8192x1024 ![] bcast_S_S8192x1024 main_v15
  main_v16
-- ==== Kernel.lean ====
abbrev S2048x1024 : Shape := ⟨2, ![2048, 1024]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S_ : Shape := ⟨0, ![]⟩
abbrev S1x2048 : Shape := ⟨2, ![1, 2048]⟩
abbrev S8x128 : Shape := ⟨2, ![8, 128]⟩
abbrev S2304x1024 : Shape := ⟨2, ![2304, 1024]⟩
abbrev S32x128 : Shape := ⟨2, ![32, 128]⟩
abbrev S1 : Shape := ⟨1, ![1]⟩
abbrev S576x2048 : Shape := ⟨2, ![576, 2048]⟩
abbrev S576x1024 : Shape := ⟨2, ![576, 1024]⟩
abbrev S32 : Shape := ⟨1, ![32]⟩
abbrev S4x8 : Shape := ⟨2, ![4, 8]⟩
abbrev S4x1 : Shape := ⟨2, ![4, 1]⟩
abbrev S4x4 : Shape := ⟨2, ![4, 4]⟩
abbrev S2048x576 : Shape := ⟨2, ![2048, 576]⟩

abbrev nBuf : Space → Nat
  | .hbm => 28
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S2048x1, .i32⟩
  | .hbm, ⟨3, _⟩ => ⟨S4, .i32⟩
  | .hbm, ⟨4, _⟩ => ⟨S1x4, .i32⟩
  | .hbm, ⟨5, _⟩ => ⟨S2048x4, .i32⟩
  | .hbm, ⟨6, _⟩ => ⟨S2048x4, .i32⟩
  | .hbm, ⟨7, _⟩ => ⟨S2048x4, .i1⟩
  | .hbm, ⟨8, _⟩ => ⟨S2048x4, .i32⟩
  | .hbm, ⟨9, _⟩ => ⟨S_, .i32⟩
  | .hbm, ⟨10, _⟩ => ⟨S_, .i32⟩
  | .hbm, ⟨11, _⟩ => ⟨S2048x4, .i32⟩
  | .hbm, ⟨12, _⟩ => ⟨S2048x4, .i32⟩
  | .hbm, ⟨13, _⟩ => ⟨S2048x4, .i32⟩
  | .hbm, ⟨14, _⟩ => ⟨S_, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S1x2048, .i32⟩
  | .hbm, ⟨21, _⟩ => ⟨S_, .i32⟩
  | .hbm, ⟨22, _⟩ => ⟨S4, .i32⟩
  | .hbm, ⟨23, _⟩ => ⟨S1x4, .i32⟩
  | .hbm, ⟨24, _⟩ => ⟨S_, .i32⟩
  | .hbm, ⟨25, _⟩ => ⟨S_, .i32⟩
  | .hbm, ⟨26, _⟩ => ⟨S8x128, .i32⟩
  | .hbm, ⟨27, _⟩ => ⟨S2048x1024, .f32⟩
  | .local _ .vmem, ⟨0, _⟩ => ⟨S2048x1024, .bf16⟩
  | .local _ .vmem, ⟨1, _⟩ => ⟨S1x2048, .i32⟩
  | .local _ .vmem, ⟨2, _⟩ => ⟨S8x128, .i32⟩
  | .local _ .vmem, ⟨3, _⟩ => ⟨S2048x1024, .f32⟩
  | .local _ .vmem, ⟨4, _⟩ => ⟨S2304x1024, .bf16⟩
  | .local _ .vmem, ⟨5, _⟩ => ⟨S2304x1024, .bf16⟩
  | .local _ .vmem, ⟨6, _⟩ => ⟨S32x128, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_call0_c : Ref sig .tc := ⟨.hbm, 9, rfl⟩
abbrev main_call0_call0_v0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v63 : BitVec 32 := Scalar.muli v5 c8_i32
  let v64 : Index := Scalar.indexCast v63
  let c0_38 : Index := 0#32
  ![v64.toNat, 0]
def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32_46 : BitVec 32 := 8#32
  let v79 : BitVec 32 := Scalar.muli v5 c8_i32_46
  let c0_i32_53 : BitVec 32 := 0#32
  ![v79.toNat, 0]
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v80 : BitVec 32 := Scalar.muli v2 c16_i32_49
  let v81 : BitVec 32 := Scalar.addi c0_i32_50 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v68 : BitVec 32 := Scalar.addi v5 c1_i32_39
  let c4_i32_40 : BitVec 32 := 4#32
  let c0_i32_41 : BitVec 32 := 0#32
  let v69 : BitVec 1 := Scalar.cmpi .eq c4_i32_40 c0_i32_41
  let c1_i32_42 : BitVec 32 := 1#32
  let v70 : BitVec 32 := Scalar.select v69 c1_i32_42 c4_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c4_i32_51 : BitVec 32 := 4#32
  let v82 : BitVec 32 := Scalar.muli v78 c4_i32_51
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v84 : BitVec 32 := Scalar.muli v8 c1_i32_52
  let v85 : BitVec 32 := Scalar.addi v83 v84
  v85.toNat
def k0_dev5 (d0 : Dev nD) : Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_64 : BitVec 32 := 16#32
  let v103 : BitVec 32 := Scalar.muli v2 c16_i32_64
  let v104 : BitVec 32 := Scalar.addi c0_i32_65 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_54 : BitVec 32 := 2#32
  let v91 : BitVec 32 := Scalar.addi v5 c2_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c4_i32_66 : BitVec 32 := 4#32
  let v105 : BitVec 32 := Scalar.muli v101 c4_i32_66
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v107 : BitVec 32 := Scalar.muli v8 c1_i32_67
  let v108 : BitVec 32 := Scalar.addi v106 v107
  v108.toNat
def k0_dev6 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v126 : BitVec 32 := Scalar.muli v2 c16_i32_79
  let v127 : BitVec 32 := Scalar.addi c0_i32_80 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_69 : BitVec 32 := 3#32
  let v114 : BitVec 32 := Scalar.addi v5 c3_i32_69
  let c4_i32_70 : BitVec 32 := 4#32
  let c0_i32_71 : BitVec 32 := 0#32
  let v115 : BitVec 1 := Scalar.cmpi .eq c4_i32_70 c0_i32_71
  let c1_i32_72 : BitVec 32 := 1#32
  let v116 : BitVec 32 := Scalar.select v115 c1_i32_72 c4_i32_70
  let v117 : BitVec 32 := Scalar.remsi v114 v116
  let c0_i32_74 : BitVec 32 := 0#32
  let v119 : BitVec 1 := Scalar.cmpi .slt v117 c0_i32_74
  let c0_i32_75 : BitVec 32 := 0#32
  let v120 : BitVec 1 := Scalar.cmpi .slt v116 c0_i32_75
  let v121 : BitVec 1 := Scalar.xori v119 v120
  let c0_i32_73 : BitVec 32 := 0#32
  let v118 : BitVec 1 := Scalar.cmpi .ne v117 c0_i32_73
  let v122 : BitVec 1 := Scalar.andi v121 v118
  let v123 : BitVec 32 := Scalar.addi v117 v116
  let v124 : BitVec 32 := Scalar.select v122 v123 v117
  let c4_i32_81 : BitVec 32 := 4#32
  let v128 : BitVec 32 := Scalar.muli v124 c4_i32_81
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v130 : BitVec 32 := Scalar.muli v8 c1_i32_82
  let v131 : BitVec 32 := Scalar.addi v129 v130
  v131.toNat
def k0_off3 (d0 : Dev nD) (c1_i32_86 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v139 : BitVec 32 := Scalar.addi v5 c1_i32_86
  let c4_i32_87 : BitVec 32 := 4#32
  let c0_i32_88 : BitVec 32 := 0#32
  let v140 : BitVec 1 := Scalar.cmpi .eq c4_i32_87 c0_i32_88
  let c1_i32_89 : BitVec 32 := 1#32
  let v141 : BitVec 32 := Scalar.select v140 c1_i32_89 c4_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c576_i32_95 : BitVec 32 := 576#32
  let v163 : BitVec 32 := Scalar.muli v149 c576_i32_95
  let v164 : Index := Scalar.indexCast v163
  let c0_96 : Index := 0#32
  ![v164.toNat, 0]
def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c576_i32_98 : BitVec 32 := 576#32
  let v169 : BitVec 32 := Scalar.muli v5 c576_i32_98
  let c0_i32_105 : BitVec 32 := 0#32
  ![v169.toNat, 0]
def k0_off5 (d0 : Dev nD) (c1_i32_86 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v139 : BitVec 32 := Scalar.addi v5 c1_i32_86
  let c4_i32_87 : BitVec 32 := 4#32
  let c0_i32_88 : BitVec 32 := 0#32
  let v140 : BitVec 1 := Scalar.cmpi .eq c4_i32_87 c0_i32_88
  let c1_i32_89 : BitVec 32 := 1#32
  let v141 : BitVec 32 := Scalar.select v140 c1_i32_89 c4_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c576_i32_97 : BitVec 32 := 576#32
  let v168 : BitVec 32 := Scalar.muli v149 c576_i32_97
  let c0_i32_106 : BitVec 32 := 0#32
  ![v168.toNat, 0]
def k0_dev7 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v170 : BitVec 32 := Scalar.muli v2 c16_i32_101
  let v171 : BitVec 32 := Scalar.addi c0_i32_102 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_86 : BitVec 32 := 1#32
  let v139 : BitVec 32 := Scalar.addi v5 c1_i32_86
  let c4_i32_87 : BitVec 32 := 4#32
  let c0_i32_88 : BitVec 32 := 0#32
  let v140 : BitVec 1 := Scalar.cmpi .eq c4_i32_87 c0_i32_88
  let c1_i32_89 : BitVec 32 := 1#32
  let v141 : BitVec 32 := Scalar.select v140 c1_i32_89 c4_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c4_i32_103 : BitVec 32 := 4#32
  let v172 : BitVec 32 := Scalar.muli v149 c4_i32_103
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v174 : BitVec 32 := Scalar.muli v8 c1_i32_104
  let v175 : BitVec 32 := Scalar.addi v173 v174
  v175.toNat
def k0_dev8 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v213 : BitVec 32 := Scalar.muli v2 c16_i32_124
  let v214 : BitVec 32 := Scalar.addi c0_i32_125 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_107 : BitVec 32 := 2#32
  let v182 : BitVec 32 := Scalar.addi v5 c2_i32_107
  let c4_i32_108 : BitVec 32 := 4#32
  let c0_i32_109 : BitVec 32 := 0#32
  let v183 : BitVec 1 := Scalar.cmpi .eq c4_i32_108 c0_i32_109
  let c1_i32_110 : BitVec 32 := 1#32
  let v184 : BitVec 32 := Scalar.select v183 c1_i32_110 c4_i32_108
  let v185 : BitVec 32 := Scalar.remsi v182 v184
  let c0_i32_112 : BitVec 32 := 0#32
  let v187 : BitVec 1 := Scalar.cmpi .slt v185 c0_i32_112
  let c0_i32_113 : BitVec 32 := 0#32
  let v188 : BitVec 1 := Scalar.cmpi .slt v184 c0_i32_113
  let v189 : BitVec 1 := Scalar.xori v187 v188
  let c0_i32_111 : BitVec 32 := 0#32
  let v186 : BitVec 1 := Scalar.cmpi .ne v185 c0_i32_111
  let v190 : BitVec 1 := Scalar.andi v189 v186
  let v191 : BitVec 32 := Scalar.addi v185 v184
  let v192 : BitVec 32 := Scalar.select v190 v191 v185
  let c4_i32_126 : BitVec 32 := 4#32
  let v215 : BitVec 32 := Scalar.muli v192 c4_i32_126
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v217 : BitVec 32 := Scalar.muli v8 c1_i32_127
  let v218 : BitVec 32 := Scalar.addi v216 v217
  v218.toNat
def k0_dev9 (d0 : Dev nD) : Nat :=
  let c0_i32_148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_147 : BitVec 32 := 16#32
  let v256 : BitVec 32 := Scalar.muli v2 c16_i32_147
  let v257 : BitVec 32 := Scalar.addi c0_i32_148 v256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_130 : BitVec 32 := 3#32
  let v225 : BitVec 32 := Scalar.addi v5 c3_i32_130
  let c4_i32_131 : BitVec 32 := 4#32
  let c0_i32_132 : BitVec 32 := 0#32
  let v226 : BitVec 1 := Scalar.cmpi .eq c4_i32_131 c0_i32_132
  let c1_i32_133 : BitVec 32 := 1#32
  let v227 : BitVec 32 := Scalar.select v226 c1_i32_133 c4_i32_131
  let v228 : BitVec 32 := Scalar.remsi v225 v227
  let c0_i32_135 : BitVec 32 := 0#32
  let v230 : BitVec 1 := Scalar.cmpi .slt v228 c0_i32_135
  let c0_i32_136 : BitVec 32 := 0#32
  let v231 : BitVec 1 := Scalar.cmpi .slt v227 c0_i32_136
  let v232 : BitVec 1 := Scalar.xori v230 v231
  let c0_i32_134 : BitVec 32 := 0#32
  let v229 : BitVec 1 := Scalar.cmpi .ne v228 c0_i32_134
  let v233 : BitVec 1 := Scalar.andi v232 v229
  let v234 : BitVec 32 := Scalar.addi v228 v227
  let v235 : BitVec 32 := Scalar.select v233 v234 v228
  let c4_i32_149 : BitVec 32 := 4#32
  let v258 : BitVec 32 := Scalar.muli v235 c4_i32_149
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v260 : BitVec 32 := Scalar.muli v8 c1_i32_150
  let v261 : BitVec 32 := Scalar.addi v259 v260
  v261.toNat
def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c576_i32_157 : BitVec 32 := 576#32
  let v281 : BitVec 32 := Scalar.muli v5 c576_i32_157
  let v282 : Index := Scalar.indexCast v281
  let c0_158 : Index := 0#32
  ![v282.toNat, 0]
def k0_off7 (d0 : Dev nD) (c1_i32_159 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v286 : BitVec 32 := Scalar.subi v5 c1_i32_159
  let c4_i32_160 : BitVec 32 := 4#32
  let c0_i32_161 : BitVec 32 := 0#32
  let v287 : BitVec 1 := Scalar.cmpi .eq c4_i32_160 c0_i32_161
  let c1_i32_162 : BitVec 32 := 1#32
  let v288 : BitVec 32 := Scalar.select v287 c1_i32_162 c4_i32_160
  let v289 : BitVec 32 := Scalar.remsi v286 v288
  let c0_i32_164 : BitVec 32 := 0#32
  let v291 : BitVec 1 := Scalar.cmpi .slt v289 c0_i32_164
  let c0_i32_165 : BitVec 32 := 0#32
  let v292 : BitVec 1 := Scalar.cmpi .slt v288 c0_i32_165
  let v293 : BitVec 1 := Scalar.xori v291 v292
  let c0_i32_163 : BitVec 32 := 0#32
  let v290 : BitVec 1 := Scalar.cmpi .ne v289 c0_i32_163
  let v294 : BitVec 1 := Scalar.andi v293 v290
  let v295 : BitVec 32 := Scalar.addi v289 v288
  let v296 : BitVec 32 := Scalar.select v294 v295 v289
  let c8_i32_166 : BitVec 32 := 8#32
  let v297 : BitVec 32 := Scalar.muli v296 c8_i32_166
  let c0_i32_173 : BitVec 32 := 0#32
  ![v297.toNat, 0]
def k0_off8 (d0 : Dev nD) (c1_i32_217 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v404 : BitVec 32 := Scalar.subi v5 c1_i32_217
  let c4_i32_218 : BitVec 32 := 4#32
  let c0_i32_219 : BitVec 32 := 0#32
  let v405 : BitVec 1 := Scalar.cmpi .eq c4_i32_218 c0_i32_219
  let c1_i32_220 : BitVec 32 := 1#32
  let v406 : BitVec 32 := Scalar.select v405 c1_i32_220 c4_i32_218
  let v407 : BitVec 32 := Scalar.remsi v404 v406
  let c0_i32_222 : BitVec 32 := 0#32
  let v409 : BitVec 1 := Scalar.cmpi .slt v407 c0_i32_222
  let c0_i32_223 : BitVec 32 := 0#32
  let v410 : BitVec 1 := Scalar.cmpi .slt v406 c0_i32_223
  let v411 : BitVec 1 := Scalar.xori v409 v410
  let c0_i32_221 : BitVec 32 := 0#32
  let v408 : BitVec 1 := Scalar.cmpi .ne v407 c0_i32_221
  let v412 : BitVec 1 := Scalar.andi v411 v408
  let v413 : BitVec 32 := Scalar.addi v407 v406
  let v414 : BitVec 32 := Scalar.select v412 v413 v407
  let c576_i32_224 : BitVec 32 := 576#32
  let v415 : BitVec 32 := Scalar.muli v414 c576_i32_224
  let c0_i32_231 : BitVec 32 := 0#32
  ![v415.toNat, 0]
def k0_off9 (d0 : Dev nD) (c1_i32_217 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v404 : BitVec 32 := Scalar.subi v5 c1_i32_217
  let c4_i32_218 : BitVec 32 := 4#32
  let c0_i32_219 : BitVec 32 := 0#32
  let v405 : BitVec 1 := Scalar.cmpi .eq c4_i32_218 c0_i32_219
  let c1_i32_220 : BitVec 32 := 1#32
  let v406 : BitVec 32 := Scalar.select v405 c1_i32_220 c4_i32_218
  let v407 : BitVec 32 := Scalar.remsi v404 v406
  let c0_i32_222 : BitVec 32 := 0#32
  let v409 : BitVec 1 := Scalar.cmpi .slt v407 c0_i32_222
  let c0_i32_223 : BitVec 32 := 0#32
  let v410 : BitVec 1 := Scalar.cmpi .slt v406 c0_i32_223
  let v411 : BitVec 1 := Scalar.xori v409 v410
  let c0_i32_221 : BitVec 32 := 0#32
  let v408 : BitVec 1 := Scalar.cmpi .ne v407 c0_i32_221
  let v412 : BitVec 1 := Scalar.andi v411 v408
  let v413 : BitVec 32 := Scalar.addi v407 v406
  let v414 : BitVec 32 := Scalar.select v412 v413 v407
  let c576_i32_237 : BitVec 32 := 576#32
  let v436 : BitVec 32 := Scalar.muli v414 c576_i32_237
  let v437 : Index := Scalar.indexCast v436
  let c0_238 : Index := 0#32
  ![v437.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S8192x1024, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Proto.lean ====
/- The protocol of the kernel: the peers of a device, what each buffer block holds, the semaphore cells with the round each goes through,
   what a device owes when the kernel starts. All over any floats `F`, so one run serves both programs. -/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Ring
public import Idealize.ShloMosaic.Lib.Tactic

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The ring of four devices along the mesh's second axis -/

/-- A device's coordinate on the axis the rows are exchanged over. -/
def yc (c : Dev nD) : Fin 4 := ⟨c.val / 4 % 4, Nat.mod_lt _ (by decide)⟩
/-- The device of `c`'s ring whose coordinate is `j`. -/
def src (c : Dev nD) (j : Fin 4) : Dev nD := ⟨c.val / 16 * 16 + j.val * 4 + c.val % 4, by have := c.isLt; have h : nD = 32 := rfl; omega⟩
/-- The device `d + 1` steps further along the ring. -/
def pe (d : Fin 3) (c : Dev nD) : Dev nD := src c ⟨(c.val / 4 + d.val + 1) % 4, Nat.mod_lt _ (by decide)⟩
/-- The device `d + 1` steps back. -/
def fr (d : Fin 3) (c : Dev nD) : Dev nD := pe d.rev c

theorem fr_pe (d : Fin 3) (c : Dev nD) : fr d (pe d c) = c := by revert d c; decide
theorem pe_fr (d : Fin 3) (c : Dev nD) : pe d (fr d c) = c := by revert d c; decide
theorem pe_rev (d : Fin 3) (c : Dev nD) : pe d.rev (pe d c) = c := by revert d c; decide
theorem src_yc (c : Dev nD) : src c (yc c) = c := by revert c; decide
theorem yc_src (c : Dev nD) (j : Fin 4) : yc (src c j) = j := by revert c j; decide
theorem src_pe_yc (d : Fin 3) (c : Dev nD) : src (pe d c) (yc c) = c := by revert d c; decide
theorem src_yc_fr (d : Fin 3) (c : Dev nD) : src c (yc (fr d c)) = fr d c := by revert d c; decide
theorem yc_pe_sub (d : Fin 3) (c : Dev nD) : yc (pe d c) - yc c = d.succ := by revert d c; decide
theorem yc_sub_fr (d : Fin 3) (c : Dev nD) : yc c - yc (fr d c) = d.succ := by revert d c; decide

/-- A turn of the ring by `d + 1`, as a permutation of the devices. -/
def ring (d : Fin 3) : Dev nD ≃ Dev nD := ⟨pe d, fr d, fr_pe d, pe_fr d⟩

theorem dev1_eq (c : Dev nD) : (⟨k0_dev1 c, k0_dev1_lt c⟩ : Dev nD) = pe 0 c := by revert c; decide
theorem dev2_eq (c : Dev nD) : (⟨k0_dev2 c, k0_dev2_lt c⟩ : Dev nD) = pe 1 c := by revert c; decide
theorem dev3_eq (c : Dev nD) : (⟨k0_dev3 c, k0_dev3_lt c⟩ : Dev nD) = pe 2 c := by revert c; decide
theorem dev4_eq (c : Dev nD) : (⟨k0_dev4 c, k0_dev4_lt c⟩ : Dev nD) = pe 0 c := by revert c; decide
theorem dev5_eq (c : Dev nD) : (⟨k0_dev5 c, k0_dev5_lt c⟩ : Dev nD) = pe 1 c := by revert c; decide
theorem dev6_eq (c : Dev nD) : (⟨k0_dev6 c, k0_dev6_lt c⟩ : Dev nD) = pe 2 c := by revert c; decide
theorem dev7_eq (c : Dev nD) : (⟨k0_dev7 c, k0_dev7_lt c⟩ : Dev nD) = pe 0 c := by revert c; decide
theorem dev8_eq (c : Dev nD) : (⟨k0_dev8 c, k0_dev8_lt c⟩ : Dev nD) = pe 1 c := by revert c; decide
theorem dev9_eq (c : Dev nD) : (⟨k0_dev9 c, k0_dev9_lt c⟩ : Dev nD) = pe 2 c := by revert c; decide

/-- The word `d + 1` the printed offsets take. -/
def dw (d : Fin 3) : BitVec 32 := BitVec.ofNat 32 (d.val + 1)

theorem off1_eq (c : Dev nD) : k0_off1 c = ![8 * (yc c).val, 0] := by revert c; decide
theorem off2_eq (c : Dev nD) : k0_off2 c = ![8 * (yc c).val, 0] := by revert c; decide
theorem off3_eq (c : Dev nD) (d : Fin 3) : k0_off3 c (dw d) = ![576 * (yc (pe d c)).val, 0] := by revert c d; decide
theorem off4_eq (c : Dev nD) : k0_off4 c = ![576 * (yc c).val, 0] := by revert c; decide
theorem off5_eq (c : Dev nD) (d : Fin 3) : k0_off5 c (dw d) = ![576 * (yc (pe d c)).val, 0] := by revert c d; decide
theorem off6_eq (c : Dev nD) : k0_off6 c = ![576 * (yc c).val, 0] := by revert c; decide
theorem off9_eq (c : Dev nD) (d : Fin 3) : k0_off9 c (dw d) = ![576 * (yc (fr d c)).val, 0] := by revert c d; decide

/-! ## The blocks of the three scratch buffers -/

/-- The elements of the count table's block `j`. -/
def gB (j : Fin 4) : Finset S32x128.Idx := Finset.univ.filter fun i => (i 0).val / 8 = j.val
/-- The elements of block `j` of a buffer of packed rows. -/
def tB (j : Fin 4) : Finset S2304x1024.Idx := Finset.univ.filter fun i => (i 0).val / 576 = j.val

theorem mem_gB {j : Fin 4} {i : S32x128.Idx} : i ∈ gB j ↔ (i 0).val / 8 = j.val := by simp [gB]
theorem mem_tB {j : Fin 4} {i : S2304x1024.Idx} : i ∈ tB j ↔ (i 0).val / 576 = j.val := by simp [tB]

theorem gB_disj (a b : Fin 4) (h : a ≠ b) : Disjoint (gB a) (gB b) :=
  Finset.disjoint_left.mpr fun i ha hb => h (Fin.ext ((mem_gB.mp ha).symm.trans (mem_gB.mp hb)))
theorem tB_disj (a b : Fin 4) (h : a ≠ b) : Disjoint (tB a) (tB b) :=
  Finset.disjoint_left.mpr fun i ha hb => h (Fin.ext ((mem_tB.mp ha).symm.trans (mem_tB.mp hb)))

theorem gB_cover (i : S32x128.Idx) : ∃ j, i ∈ gB j := by
  have h : (i 0).val < 32 := (i 0).isLt
  exact ⟨⟨(i 0).val / 8, by omega⟩, mem_gB.mpr rfl⟩
theorem tB_cover (i : S2304x1024.Idx) : ∃ j, i ∈ tB j := by
  have h : (i 0).val < 2304 := (i 0).isLt
  exact ⟨⟨(i 0).val / 576, by omega⟩, mem_tB.mpr rfl⟩

/-- The rectangle of block `j` of the count table. -/
theorem gRect_set (j : Fin 4) (off : Fin 2 → Nat) (h : off = ![8 * j.val, 0]) (inb : ∀ a, off a + S8x128.size a ≤ S32x128.size a) :
    (Rect.unit (s := S32x128) off S8x128.size inb).set = gB j := by
  subst h; ext i; rw [Rect.mem_set_unit, mem_gB]
  have h1 : (i 1).val < 128 := (i 1).isLt
  constructor
  · intro h; have := h 0
    have h0 : 8 * j.val ≤ (i 0).val ∧ (i 0).val < 8 * j.val + 8 := this
    omega
  · intro h a
    match a with
    | 0 => show 8 * j.val ≤ (i 0).val ∧ (i 0).val < 8 * j.val + 8; omega
    | 1 => show 0 ≤ (i 1).val ∧ (i 1).val < 0 + 128; omega
/-- The rectangle of block `j` of a buffer of packed rows. -/
theorem tRect_set (j : Fin 4) (off : Fin 2 → Nat) (h : off = ![576 * j.val, 0]) (inb : ∀ a, off a + S576x1024.size a ≤ S2304x1024.size a) :
    (Rect.unit (s := S2304x1024) off S576x1024.size inb).set = tB j := by
  subst h; ext i; rw [Rect.mem_set_unit, mem_tB]
  have h1 : (i 1).val < 1024 := (i 1).isLt
  constructor
  · intro h; have := h 0
    have h0 : 576 * j.val ≤ (i 0).val ∧ (i 0).val < 576 * j.val + 576 := this
    omega
  · intro h a
    match a with
    | 0 => show 576 * j.val ≤ (i 0).val ∧ (i 0).val < 576 * j.val + 576; omega
    | 1 => show 0 ≤ (i 1).val ∧ (i 1).val < 0 + 1024; omega

/-- An index of a block of the count table, from a whole table's. -/
def gLoc (i : S32x128.Idx) : S8x128.Idx := fun | 0 => ⟨(i 0).val % 8, Nat.mod_lt _ (by decide)⟩ | 1 => ⟨(i 1).val, (i 1).isLt⟩
/-- An index of a block of packed rows, from a whole buffer's. -/
def tLoc (i : S2304x1024.Idx) : S576x1024.Idx := fun | 0 => ⟨(i 0).val % 576, Nat.mod_lt _ (by decide)⟩ | 1 => ⟨(i 1).val, (i 1).isLt⟩
/-- The block an element of the count table is in. -/
def gBlk (i : S32x128.Idx) : Fin 4 := ⟨(i 0).val / 8, by have h : (i 0).val < 32 := (i 0).isLt; omega⟩
/-- The block an element of a buffer of packed rows is in. -/
def tBlk (i : S2304x1024.Idx) : Fin 4 := ⟨(i 0).val / 576, by have h : (i 0).val < 2304 := (i 0).isLt; omega⟩

theorem gEmb (j : Fin 4) (off : Fin 2 → Nat) (h : off = ![8 * j.val, 0]) (inb : ∀ a, off a + S8x128.size a ≤ S32x128.size a) (k : S8x128.Idx) :
    gBlk ((Rect.unit (s := S32x128) off S8x128.size inb).emb k) = j ∧ gLoc ((Rect.unit (s := S32x128) off S8x128.size inb).emb k) = k := by
  subst h
  have h0 : (k 0).val < 8 := (k 0).isLt
  have e0 : ((Rect.unit (s := S32x128) ![8 * j.val, 0] S8x128.size inb).emb k 0).val = 8 * j.val + (k 0).val := by
    rw [Rect.emb_apply]; show 8 * j.val + 1 * (k 0).val = _; omega
  have e1 : ((Rect.unit (s := S32x128) ![8 * j.val, 0] S8x128.size inb).emb k 1).val = (k 1).val := by
    rw [Rect.emb_apply]; show 0 + 1 * (k 1).val = _; omega
  refine ⟨Fin.ext ?_, funext fun a => ?_⟩
  · show ((Rect.unit (s := S32x128) ![8 * j.val, 0] S8x128.size inb).emb k 0).val / 8 = j.val
    rw [e0]; omega
  · match a with
    | 0 => exact Fin.ext (by show ((Rect.unit (s := S32x128) ![8 * j.val, 0] S8x128.size inb).emb k 0).val % 8 = (k 0).val; rw [e0]; omega)
    | 1 => exact Fin.ext e1
theorem tEmb (j : Fin 4) (off : Fin 2 → Nat) (h : off = ![576 * j.val, 0]) (inb : ∀ a, off a + S576x1024.size a ≤ S2304x1024.size a) (k : S576x1024.Idx) :
    tBlk ((Rect.unit (s := S2304x1024) off S576x1024.size inb).emb k) = j ∧ tLoc ((Rect.unit (s := S2304x1024) off S576x1024.size inb).emb k) = k := by
  subst h
  have h0 : (k 0).val < 576 := (k 0).isLt
  have e0 : ((Rect.unit (s := S2304x1024) ![576 * j.val, 0] S576x1024.size inb).emb k 0).val = 576 * j.val + (k 0).val := by
    rw [Rect.emb_apply]; show 576 * j.val + 1 * (k 0).val = _; omega
  have e1 : ((Rect.unit (s := S2304x1024) ![576 * j.val, 0] S576x1024.size inb).emb k 1).val = (k 1).val := by
    rw [Rect.emb_apply]; show 0 + 1 * (k 1).val = _; omega
  refine ⟨Fin.ext ?_, funext fun a => ?_⟩
  · show ((Rect.unit (s := S2304x1024) ![576 * j.val, 0] S576x1024.size inb).emb k 0).val / 576 = j.val
    rw [e0]; omega
  · match a with
    | 0 => exact Fin.ext (by show ((Rect.unit (s := S2304x1024) ![576 * j.val, 0] S576x1024.size inb).emb k 0).val % 576 = (k 0).val; rw [e0]; omega)
    | 1 => exact Fin.ext e1

/-- A whole table made of one block per coordinate. -/
def gAssemble (B : Fin 4 → Vec F S8x128 .i32) : Vec F S32x128 .i32 := fun i => B (gBlk i) (gLoc i)
/-- A whole buffer of packed rows made of one block per coordinate. -/
def tAssemble (B : Fin 4 → Vec F S576x1024 .bf16) : Vec F S2304x1024 .bf16 := fun i => B (tBlk i) (tLoc i)

/-! ## The valuation at the kernel's call -/

local notation "𝕄" => MT nD τ sig Unit (Elt F) ℕ (UR sig nD τ × URounds (GSem nD τ sig) (Fin 3)) ℕ

abbrev UU : Type := UR sig nD τ × URounds (GSem nD τ sig) (Fin 3)
abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := StableHlo.after hostOps0_1 (V₁ m c)
abbrev V₃ (c : Dev nD) : Valuation τ sig (Elt F) := StableHlo.after hostOps0_2 (V₂ m c)
/-- A device's buffers when the kernel is called. -/
abbrev V₄ (c : Dev nD) : Valuation τ sig (Elt F) := StableHlo.after hostOps0_3 (V₃ m c)

theorem V₄_eq (c : Dev nD) (b : Ref sig .tc) : V₄ m c b = V m c b := by
  unfold V V₄ V₃ V₂ V₁ V₀
  simp only [List.flatten_cons, List.flatten_nil, List.append_nil]
  rw [StableHlo.after_append, StableHlo.after_append, StableHlo.after_append]

/-- The rows, the slot indices and the counts the kernel finds staged. -/
def xv (c : Dev nD) : Vec F S2048x1024 .bf16 := V₄ m c main_arg0
def tv (c : Dev nD) : Vec F S1x2048 .i32 := V₄ m c main_v15
def cnt (c : Dev nD) : Vec F S8x128 .i32 := V₄ m c main_v18

/-! ## What the kernel computes -/

/-- The word of the exchange coordinate, as the body computes it. -/
def yw (c : Dev nD) : BitVec 32 := Scalar.remsi (Scalar.divsi (Dev.word c) 4#32) 4#32

/-- The rows device `c` packs for the device `j` steps further. -/
def packD (c : Dev nD) (j : Fin 4) : Vec F S576x1024 .bf16 :=
  match j with
  | 0 => k0_pay8 (yw c) (k0_pay3 (tv m c)) (xv m c)
  | 1 => k0_pay4 (yw c) (tv m c) (xv m c)
  | 2 => k0_pay5 (yw c) (k0_pay3 (tv m c)) (xv m c)
  | 3 => k0_pay7 (k0_pay6 (yw c) (k0_pay3 (tv m c)) (xv m c))

/-- What each device's send buffer, landing buffer and count table come to hold. -/
def sAll (c : Dev nD) : Vec F S2304x1024 .bf16 := tAssemble fun t => packD m c (t - yc c)
def stgAll (c : Dev nD) : Vec F S2304x1024 .bf16 := tAssemble fun j => packD m (src c j) (yc c - j)
def gAll (c : Dev nD) : Vec F S32x128 .i32 := gAssemble fun j => cnt m (src c j)

/-- The counts every peer sends this device, one word per peer. -/
def cnts (c : Dev nD) : IVec S4 32 := k0_pay9 (F := F) (yw c) (gAll m c)
/-- Per result row, the row of the landing buffer it comes from. -/
def slotOf (c : Dev nD) : IVec S2048x1 32 := k0_pay11 (cnts m c) k0_pay10
/-- The block device `j` of the ring packed for this device. -/
def blk (c : Dev nD) (j : Fin 4) : Vec F S576x1024 .bf16 := packD m (src c j) (yc c - j)

/-- The columns' numbers, and the words the body computes on its way. -/
abbrev iot : IVec S2048x576 32 := iota .tc S2048x576 32 [1] iota_S2048x576_d1_w32
abbrev w406 : BitVec 32 := Scalar.select (Scalar.cmpi .eq 4#32 0#32) 1#32 4#32
abbrev w407 (c : Dev nD) : BitVec 32 := Scalar.remsi (Scalar.subi (yw c) 1#32) w406
abbrev w442 (c : Dev nD) : BitVec 32 := Scalar.subi (yw c) 2#32

/-- The result after each of the four blocks is added. -/
def out0 (c : Dev nD) : Vec F S2048x1024 .f32 := k0_pay12 (yw c) (cnts m c) k0_pay10 (blk m c (yc c))
def out1 (c : Dev nD) : Vec F S2048x1024 .f32 := k0_pay13 (slotOf m c) iot w406 (w407 c) (out0 m c) (blk m c (yc (fr 0 c)))
def out2 (c : Dev nD) : Vec F S2048x1024 .f32 := k0_pay14 (slotOf m c) iot (w442 c) 4#32 (out1 m c) (blk m c (yc (fr 1 c)))
def out3 (c : Dev nD) : Vec F S2048x1024 .f32 := k0_pay17 (k0_pay15 (out2 m c)) (k0_pay16 (F := F) (yw c) (slotOf m c) iot) (blk m c (yc (fr 2 c)))

end Cert.KernelIdeal.A2A

end
-- ==== Proof.Sched.lean ====
/- The semaphore cells: what each is paid, with what, and the order a device may wait in. -/
module

public import proofs.«01_k».proof.Proof.Proto

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells -/

/-- Semaphore `d` of array `k`: 0 rows sent, 1 rows landed, 2 counts sent, 3 counts landed; entry 0 of each array is unused. -/
def semIx (k : Fin 4) (d : Fin 3) : DmaSem sig := ⟨4 + 4 * k.val + d.val + 1, by have h : sig.nDmaSem = 20 := rfl; omega⟩

abbrev barCell (c : Dev nD) : GSem nD τ sig := ((c : Thread nD τ), .reg barrier0)
abbrev xc (k : Fin 4) (d : Fin 3) (c : Dev nD) : GSem nD τ sig := ((c : Thread nD τ), .dma (semIx k d))

/-- Which transfer semaphore a cell is. -/
def untag : SemLoc sig → Option (Fin 4 × Fin 3)
  | .reg _ => none
  | .dma s => if h : 4 ≤ s.val ∧ s.val % 4 ≠ 0 then
      some (⟨(s.val - 4) / 4, by have := s.isLt; have h' : sig.nDmaSem = 20 := rfl; omega⟩, ⟨s.val % 4 - 1, by omega⟩) else none

theorem untag_dma (k : Fin 4) (d : Fin 3) : untag (.dma (semIx k d)) = some (k, d) := by revert k d; decide
theorem untag_bar : untag (.reg barrier0) = none := rfl
theorem dma_ne_bar (s : DmaSem sig) : (SemLoc.dma s : SemLoc sig) ≠ .reg barrier0 := fun h => by cases h

/-- What a transfer of a block of rows, and of a block of counts, credits. -/
def Nx : ℕ := ((Memref.whole cc0_scratch1 : Memref sig .tc .vmem S2304x1024 .bf16).slice
  (Rect.unit (s := S2304x1024) ![0, 0] S576x1024.size inb_S2304x1024_S576x1024_0_0) (fun _ => rfl)).view.dmaCredit
def Nc : ℕ := (Memref.whole cc0_stg2_0 : Memref sig .tc .vmem S8x128 .i32).view.dmaCredit
theorem Nx_pos : 0 < Nx := View.dmaCredit_pos _ (by decide)
theorem Nc_pos : 0 < Nc := View.dmaCredit_pos _ (by decide)
def xAmt (k : Fin 4) : ℕ := if k.val < 2 then Nx else Nc
theorem xAmt_pos (k : Fin 4) : 0 < xAmt k := by unfold xAmt; split; exact Nx_pos; exact Nc_pos

/-! ## Points-tos -/

abbrev gPt (c : Dev nD) (j : Fin 4) (f : Vec F S32x128 .i32) : sProp 𝕄 := ((c : Thread nD τ).loc cc0_scratch2) ↦[gB j]{fullShare} f
abbrev tPt (c : Dev nD) (j : Fin 4) (f : Vec F S2304x1024 .bf16) : sProp 𝕄 := ((c : Thread nD τ).loc cc0_scratch1) ↦[tB j]{fullShare} f
abbrev sPt (c : Dev nD) (j : Fin 4) (f : Vec F S2304x1024 .bf16) : sProp 𝕄 := ((c : Thread nD τ).loc cc0_scratch0) ↦[tB j]{fullShare} f
/-- A third of the count block's read share, one for each of the three transfers that read it. -/
def third (d : Fin 3) : PosShare TreeShare := match d with
  | 0 => fullShare.left
  | 1 => fullShare.right.left
  | 2 => fullShare.right.right
abbrev cPt (c : Dev nD) (q : PosShare TreeShare) : sProp 𝕄 := ((c : Thread nD τ).loc cc0_stg2_0) ↦{q} (cnt m c)

theorem cPt_split (c : Dev nD) : cPt m c fullShare ⊣⊢ iprop(cPt m c (third 0) ∗ cPt m c (third 1) ∗ cPt m c (third 2)) :=
  (pointsTo_share (PosShare.mem_left_op_right fullShare)).trans (sep_congr_right (pointsTo_share (PosShare.mem_left_op_right _)))

/-! ## What each cell is paid with -/

/-- Device `r`'s barrier is paid by each peer with the peer's blocks `r` will write, and with word that `r`'s two landing cells on that peer are open. -/
def barPay (d : Fin 3) (r : Dev nD) : sProp 𝕄 :=
  iprop((∃ f, gPt (fr d r) (yc r) f) ∗ (∃ f, tPt (fr d r) (yc r) f) ∗ reached ER (xc 3 d.rev (fr d r)) 0 ∗ reached ER (xc 1 d.rev (fr d r)) 0)
/-- A transfer's cells are paid with the source read and with the block landed. -/
def dmaPay (k : Fin 4) (d : Fin 3) (c : Dev nD) : sProp 𝕄 := match k with
  | 0 => sPt c (yc (pe d c)) (sAll m c)
  | 1 => tPt c (yc (fr d c)) (stgAll m c)
  | 2 => cPt m c (third d)
  | 3 => gPt c (yc (fr d c)) (gAll m c)

instance barPay_storable (d : Fin 3) (r : Dev nD) : BI.Storable (upEmb : UEmb _ 𝕄) (barPay (F := F) d r) := by unfold barPay; infer_instance
instance dmaPay_storable (k : Fin 4) (d : Fin 3) (c : Dev nD) : BI.Storable (upEmb : UEmb _ 𝕄) (dmaPay m k d c) := by
  unfold dmaPay; split <;> infer_instance

/-- One round each: a barrier is paid by its three peers, a transfer's cell once. -/
def rd : Rounds.Schedule (GSem nD τ sig) (Fin 3) 𝕄 where
  duties g r := if r = 0 ∧ g.1.2 = .tc then (if g.2 = .reg barrier0 then Finset.univ else if (untag g.2).isSome then {0} else ∅) else ∅
  unitless _ := False
  amount g _ _ := match untag g.2 with | none => 1 | some kd => xAmt kd.1
  payload g _ d := match untag g.2 with | none => barPay d g.1.1 | some kd => dmaPay m kd.1 kd.2 g.1.1
  amount_pos g _ _ _ := by
    rcases untag g.2 with _ | kd
    · exact Nat.one_pos
    · exact xAmt_pos _

instance rd_payload_storable (g : GSem nD τ sig) (r : ℕ) (d : Fin 3) : BI.Storable (upEmb : UEmb _ 𝕄) ((rd (F := F) m).payload g r d) := by
  show BI.Storable upEmb (match untag g.2 with | none => barPay d g.1.1 | some kd => dmaPay m kd.1 kd.2 g.1.1)
  rcases untag g.2 with _ | kd <;> infer_instance

section Tables

variable (c : Dev nD) (k : Fin 4) (d : Fin 3)

theorem duties_bar : (rd (F := F) m).duties (barCell c) 0 = Finset.univ := by
  dsimp only [rd]; rw [if_pos ⟨rfl, rfl⟩, if_pos rfl]
theorem duties_xc : (rd (F := F) m).duties (xc k d c) 0 = {0} := by
  dsimp only [rd]; rw [if_pos ⟨rfl, rfl⟩, if_neg (dma_ne_bar _), untag_dma]; rfl
theorem duties_later (g : GSem nD τ sig) : ∀ r, 1 ≤ r → (rd (F := F) m).duties g r = ∅ :=
  fun r hr => by dsimp only [rd]; rw [if_neg (fun h => by omega)]
theorem amount_bar (e : Fin 3) : (rd (F := F) m).amount (barCell c) 0 e = 1 := rfl
theorem amount_xc (e : Fin 3) : (rd (F := F) m).amount (xc k d c) 0 e = xAmt k := by
  show (match untag (.dma (semIx k d)) with | none => 1 | some kd => xAmt kd.1) = xAmt k
  rw [untag_dma]
theorem payload_bar (e : Fin 3) : (rd (F := F) m).payload (barCell c) 0 e = barPay e c := rfl
theorem payload_xc (e : Fin 3) : (rd (F := F) m).payload (xc k d c) 0 e = dmaPay m k d c := by
  show (match untag (.dma (semIx k d)) with | none => barPay e c | some kd => dmaPay m kd.1 kd.2 c) = dmaPay m k d c
  rw [untag_dma]
theorem expect_bar : (rd (F := F) m).expect (barCell c) 0 = 3 := by
  unfold Schedule.expect Schedule.amountOf; rw [duties_bar]; simp only [amount_bar]; decide
theorem expect_xc : (rd (F := F) m).expect (xc k d c) 0 = xAmt k := by
  unfold Schedule.expect Schedule.amountOf; rw [duties_xc, Finset.sum_singleton, amount_xc]
theorem rest_bar : bigSep ((rd (F := F) m).duties (barCell c) 0 \ ∅) (fun u => (rd (F := F) m).payload (barCell c) 0 u)
    = iprop(barPay 0 c ∗ barPay 1 c ∗ barPay 2 c) := by
  rw [Finset.sdiff_empty, duties_bar]
  exact bigSep_univ_eq_bigSepL [(0 : Fin 3), 1, 2] (by decide) (by decide) _
theorem rest_xc : bigSep ((rd (F := F) m).duties (xc k d c) 0 \ ∅) (fun u => (rd (F := F) m).payload (xc k d c) 0 u) = dmaPay m k d c := by
  rw [Finset.sdiff_empty, duties_xc, bigSep_singleton, payload_xc]

end Tables

/-! ## What each device owes at launch; the levels -/

/-- What it owes the cells of the peer `d + 1` steps further: rows, counts, a barrier unit. -/
abbrev rxT (d : Fin 3) (c : Dev nD) : CellTallies nD τ sig Unit := tallyAt (xc 1 d (pe d c)) () Nx
abbrev rcT (d : Fin 3) (c : Dev nD) : CellTallies nD τ sig Unit := tallyAt (xc 3 d (pe d c)) () Nc
abbrev bT (d : Fin 3) (c : Dev nD) : CellTallies nD τ sig Unit := tallyAt (barCell (pe d c)) () 1

/-- What is still owed once the barriers are signalled, in the order it is paid from the right. -/
abbrev O₁ (c : Dev nD) : CellTallies nD τ sig Unit := 0 + rxT 2 c + rxT 1 c + rxT 0 c + rcT 2 c + rcT 1 c + rcT 0 c
def O₀ (c : Dev nD) : CellTallies nD τ sig Unit := O₁ c + bT 2 c + bT 1 c + bT 0 c

def L (g : GSem nD τ sig) : Finset Unit := if g.1.2 = .tc then {()} else ∅
/-- Barriers at 1, landing cells at 2, the rest at 0. -/
def lv (g : GSem nD τ sig) (_ : Unit) : ℕ := match untag g.2 with
  | some (1, _) => 2
  | some (3, _) => 2
  | some _ => 0
  | none => if g.2 = .reg barrier0 then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_rx (d : Fin 3) (c : Dev nD) (u : Unit) : lv (xc 1 d c) u = 2 := by unfold lv; rw [untag_dma]; rfl
theorem lv_rc (d : Fin 3) (c : Dev nD) (u : Unit) : lv (xc 3 d c) u = 2 := by unfold lv; rw [untag_dma]; rfl

/-- Owing only cells a wait at or below level `b` leaves reachable. -/
def Above (b : ℕ) (O : CellTallies nD τ sig Unit) : Prop := ∀ g u, 0 < O g u → u ∈ L g ∧ b < lv g u
theorem Above.zero (b : ℕ) : Above b 0 := fun g u h => absurd h (Nat.lt_irrefl 0)
theorem Above.add {b : ℕ} {O O' : CellTallies nD τ sig Unit} (h : Above b O) (h' : Above b O') : Above b (O + O') := fun g u hg => by
  rcases Nat.eq_zero_or_pos (O g u) with h0 | h0
  · refine h' g u ?_
    have e : (O + O') g u = O g u + O' g u := rfl
    omega
  · exact h g u h0
theorem Above.tally {b : ℕ} (c : Dev nD) (sm : SemLoc sig) (n : ℕ) (h : b < lv ((c : Thread nD τ), sm) ()) : Above b (tallyAt ((c : Thread nD τ), sm) () n) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem above_O₁ (c : Dev nD) : Above 1 (O₁ c) :=
  ((((((Above.zero 1).add (.tally _ _ _ (by rw [lv_rx]; decide))).add (.tally _ _ _ (by rw [lv_rx]; decide))).add (.tally _ _ _ (by rw [lv_rx]; decide))).add
    (.tally _ _ _ (by rw [lv_rc]; decide))).add (.tally _ _ _ (by rw [lv_rc]; decide))).add (.tally _ _ _ (by rw [lv_rc]; decide))
theorem Above.mono {b b' : ℕ} (h : b' ≤ b) {O : CellTallies nD τ sig Unit} (hO : Above b O) : Above b' O := fun g u hg => ⟨(hO g u hg).1, lt_of_le_of_lt h (hO g u hg).2⟩
theorem above_O₀ (c : Dev nD) : Above 0 (O₀ c) :=
  ((((above_O₁ c).mono (by decide)).add (.tally _ _ _ (by rw [lv_bar]; decide))).add (.tally _ _ _ (by rw [lv_bar]; decide))).add (.tally _ _ _ (by rw [lv_bar]; decide))

theorem mayWait_bar (c : Dev nD) : (levAts L lv : sProp 𝕄) ⊢ MayWait (c : Thread nD τ) (.reg barrier0) () (O₁ c) :=
  MayOwe.of_cut (L := L) (lev := lv) 1 (fun p hp => by rw [Finset.mem_singleton.mp hp, L_tc]; exact Finset.mem_singleton_self _)
    (fun g u hg => (above_O₁ c g u hg).1)
    (fun p hp => by rw [Finset.mem_singleton.mp hp]; exact le_refl 1)
    (fun g u hg => (above_O₁ c g u hg).2)

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

end Cert.KernelIdeal.A2A

end
-- ==== Proof.Rules.lean ====
/- One rule per kind of step of the body: signalling a peer, sending a block, awaiting a transfer, and what a block holds after a store. -/
module

public import proofs.«01_k».proof.Proof.Sched

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

abbrev 𝒱₀ : Variants := Variants.none

/-! ## What a block holds -/

section Blocks

abbrev sRect (off : Fin 2 → Nat) (inb : ∀ a, off a + S576x1024.size a ≤ S2304x1024.size a) : Rect S2304x1024 := Rect.unit (s := S2304x1024) off S576x1024.size inb
abbrev cRect (off : Fin 2 → Nat) (inb : ∀ a, off a + S8x128.size a ≤ S32x128.size a) : Rect S32x128 := Rect.unit (s := S32x128) off S8x128.size inb

theorem t_emb {j : Fin 4} {off : Fin 2 → Nat} (h : off = ![576 * j.val, 0]) (inb : ∀ a, off a + S576x1024.size a ≤ S2304x1024.size a) {i : S2304x1024.Idx}
    (hi : i ∈ tB j) : ∃ k, (sRect off inb).emb k = i := by
  rw [← tRect_set j off h inb, ← Rect.map_emb_univ] at hi
  obtain ⟨k, -, hk⟩ := Finset.mem_map.mp hi
  exact ⟨k, hk⟩
theorem g_emb {j : Fin 4} {off : Fin 2 → Nat} (h : off = ![8 * j.val, 0]) (inb : ∀ a, off a + S8x128.size a ≤ S32x128.size a) {i : S32x128.Idx}
    (hi : i ∈ gB j) : ∃ k, (cRect off inb).emb k = i := by
  rw [← gRect_set j off h inb, ← Rect.map_emb_univ] at hi
  obtain ⟨k, -, hk⟩ := Finset.mem_map.mp hi
  exact ⟨k, hk⟩

theorem tA_emb {j : Fin 4} {off : Fin 2 → Nat} (h : off = ![576 * j.val, 0]) (inb : ∀ a, off a + S576x1024.size a ≤ S2304x1024.size a)
    (B : Fin 4 → Vec F S576x1024 .bf16) (k : S576x1024.Idx) : tAssemble B ((sRect off inb).emb k) = B j k := by
  obtain ⟨h1, h2⟩ := tEmb j off h inb k
  show B (tBlk _) (tLoc _) = B j k
  rw [h1, h2]
theorem gA_emb {j : Fin 4} {off : Fin 2 → Nat} (h : off = ![8 * j.val, 0]) (inb : ∀ a, off a + S8x128.size a ≤ S32x128.size a)
    (B : Fin 4 → Vec F S8x128 .i32) (k : S8x128.Idx) : gAssemble B ((cRect off inb).emb k) = B j k := by
  obtain ⟨h1, h2⟩ := gEmb j off h inb k
  show B (gBlk _) (gLoc _) = B j k
  rw [h1, h2]

/-- A store of block `j`'s rows leaves the block at them. -/
theorem s_store {j : Fin 4} {off : Fin 2 → Nat} (h : off = ![576 * j.val, 0]) (inb : ∀ a, off a + S576x1024.size a ≤ S2304x1024.size a)
    (B : Fin 4 → Vec F S576x1024 .bf16) (f : Vec F S2304x1024 .bf16) (w : Vec F S576x1024 .bf16) (hw : w = B j) (i : S2304x1024.Idx) (hi : i ∈ tB j) :
    ((Memref.whole cc0_scratch0 : Memref sig .tc .vmem S2304x1024 .bf16).access (sRect off inb)).write (Elt F) f w Finset.univ i = tAssemble B i := by
  obtain ⟨k, rfl⟩ := t_emb h inb hi
  rw [tA_emb h inb, ← hw]
  exact View.write_emb_of_mem (v := ((Memref.whole cc0_scratch0 : Memref sig .tc .vmem S2304x1024 .bf16).access (sRect off inb))) (Val := Elt F) f w (Finset.mem_univ k)
theorem t_store {j : Fin 4} {off : Fin 2 → Nat} (h : off = ![576 * j.val, 0]) (inb : ∀ a, off a + S576x1024.size a ≤ S2304x1024.size a)
    (B : Fin 4 → Vec F S576x1024 .bf16) (f : Vec F S2304x1024 .bf16) (w : Vec F S576x1024 .bf16) (hw : w = B j) (i : S2304x1024.Idx) (hi : i ∈ tB j) :
    ((Memref.whole cc0_scratch1 : Memref sig .tc .vmem S2304x1024 .bf16).access (sRect off inb)).write (Elt F) f w Finset.univ i = tAssemble B i := by
  obtain ⟨k, rfl⟩ := t_emb h inb hi
  rw [tA_emb h inb, ← hw]
  exact View.write_emb_of_mem (v := ((Memref.whole cc0_scratch1 : Memref sig .tc .vmem S2304x1024 .bf16).access (sRect off inb))) (Val := Elt F) f w (Finset.mem_univ k)
theorem g_store {j : Fin 4} {off : Fin 2 → Nat} (h : off = ![8 * j.val, 0]) (inb : ∀ a, off a + S8x128.size a ≤ S32x128.size a)
    (B : Fin 4 → Vec F S8x128 .i32) (f : Vec F S32x128 .i32) (w : Vec F S8x128 .i32) (hw : w = B j) (i : S32x128.Idx) (hi : i ∈ gB j) :
    ((Memref.whole cc0_scratch2 : Memref sig .tc .vmem S32x128 .i32).access (cRect off inb)).write (Elt F) f w Finset.univ i = gAssemble B i := by
  obtain ⟨k, rfl⟩ := g_emb h inb hi
  rw [gA_emb h inb, ← hw]
  exact View.write_emb_of_mem (v := ((Memref.whole cc0_scratch2 : Memref sig .tc .vmem S32x128 .i32).access (cRect off inb))) (Val := Elt F) f w (Finset.mem_univ k)

/-- A load of block `j` of the landing buffer reads the block. -/
theorem t_load {j : Fin 4} {off : Fin 2 → Nat} (h : off = ![576 * j.val, 0]) (inb : ∀ a, off a + S576x1024.size a ≤ S2304x1024.size a)
    (B : Fin 4 → Vec F S576x1024 .bf16) :
    (Memref.whole cc0_scratch1 : Memref sig .tc .vmem S2304x1024 .bf16).view.readAt (Elt F) (sRect off inb).toLoadRect (tAssemble B) = B j :=
  funext fun k => tA_emb h inb B k

/-- A block sent from the send buffer lands as the receiver's block. -/
theorem t_land {j j' : Fin 4} {off off' : Fin 2 → Nat} (h : off = ![576 * j.val, 0]) (inb : ∀ a, off a + S576x1024.size a ≤ S2304x1024.size a)
    (h' : off' = ![576 * j'.val, 0]) (inb' : ∀ a, off' a + S576x1024.size a ≤ S2304x1024.size a) (hs hs')
    (B B' : Fin 4 → Vec F S576x1024 .bf16) (f : Vec F S2304x1024 .bf16) (hB : B j = B' j') (i : S2304x1024.Idx) (hi : i ∈ tB j') :
    ((Memref.whole cc0_scratch1 : Memref sig .tc .vmem S2304x1024 .bf16).slice (sRect off' inb') hs').view.write (Elt F) f
      (((Memref.whole cc0_scratch0 : Memref sig .tc .vmem S2304x1024 .bf16).slice (sRect off inb) hs).view.read (Elt F) (tAssemble B)) Finset.univ i
      = tAssemble B' i := by
  obtain ⟨k, rfl⟩ := t_emb h' inb' hi
  rw [tA_emb h' inb', ← hB, ← tA_emb h inb B k]
  exact View.write_emb_of_mem (v := ((Memref.whole cc0_scratch1 : Memref sig .tc .vmem S2304x1024 .bf16).slice (sRect off' inb') hs').view) (Val := Elt F) f _ (Finset.mem_univ k)
/-- A count block sent lands as the receiver's. -/
theorem g_land {j' : Fin 4} {off' : Fin 2 → Nat}
    (h' : off' = ![8 * j'.val, 0]) (inb' : ∀ a, off' a + S8x128.size a ≤ S32x128.size a) (hs')
    (n : Vec F S8x128 .i32) (B' : Fin 4 → Vec F S8x128 .i32) (f : Vec F S32x128 .i32) (hB : n = B' j') (i : S32x128.Idx) (hi : i ∈ gB j') :
    ((Memref.whole cc0_scratch2 : Memref sig .tc .vmem S32x128 .i32).slice (cRect off' inb') hs').view.write (Elt F) f
      ((Memref.whole cc0_stg2_0 : Memref sig .tc .vmem S8x128 .i32).view.read (Elt F) n) Finset.univ i
      = gAssemble B' i := by
  obtain ⟨k, rfl⟩ := g_emb h' inb' hi
  rw [gA_emb h' inb', ← hB]
  exact View.write_emb_of_mem (v := ((Memref.whole cc0_scratch2 : Memref sig .tc .vmem S32x128 .i32).slice (cRect off' inb') hs').view) (Val := Elt F) f _ (Finset.mem_univ k)

end Blocks

/-! ## Loads and stores of blocks -/

section LoadStore

variable (c : Dev nD)

theorem z2 : (![0, 0] : Fin 2 → Nat) = fun _ => 0 := funext fun a => by fin_cases a <;> rfl

/-- A store of a block into its place. -/
theorem wp_st_s {j : Fin 4} {off : Fin 2 → Nat} (h : off = ![576 * j.val, 0]) (inb : ∀ a, off a + S576x1024.size a ≤ S2304x1024.size a)
    (B : Fin 4 → Vec F S576x1024 .bf16) (f : Vec F S2304x1024 .bf16) {w : Vec F S576x1024 .bf16} (hw : w = B j)
    {hx : ((Memref.whole cc0_scratch0 : Memref sig .tc .vmem S2304x1024 .bf16).access (sRect off inb)).Stores Finset.univ} {hm : (Finset.univ : Finset (sRect off inb).shape.Idx) = Finset.univ ∨ ∀ a, (sRect off inb).stride a = 1}
    {α : Type} {Q : α → sProp 𝕄} {k : PUnit → Prog (TpuEff nD τ sig (Elt F) Λ₀ .tc) α} :
    sPt c j f
      ⊢ iprop((sPt c j (tAssemble B) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch0 : Memref sig .tc .vmem S2304x1024 .bf16) (sRect off inb) w Finset.univ hx hm) k) Q) := by
  have e : ((Memref.whole cc0_scratch0 : Memref sig .tc .vmem S2304x1024 .bf16).access (sRect off inb)).set = tB j :=
    (View.set_slice_whole cc0_scratch0 (sRect off inb)).trans (tRect_set _ _ h inb)
  have hc : (sPt c j (((Memref.whole cc0_scratch0 : Memref sig .tc .vmem S2304x1024 .bf16).access (sRect off inb)).write (Elt F) f w Finset.univ) : sProp 𝕄) = sPt c j (tAssemble B) :=
    pointsTo_congr fun i hi => s_store h inb B f w hw i hi
  iintro H Hk
  iapply (wp_store 𝒱₀ (c : Thread nD τ) none Set.univ (m := (Memref.whole cc0_scratch0 : Memref sig .tc .vmem S2304x1024 .bf16)) (r := sRect off inb) (Mk := Finset.univ) (S := tB j) (f := f)
    (Eq.subset e)) $$ H
  iintro H
  iapply Hk
  iapply (Entails.of_eq hc)
  iexact H

/-- A store of a block into its place. -/
theorem wp_st_t {j : Fin 4} {off : Fin 2 → Nat} (h : off = ![576 * j.val, 0]) (inb : ∀ a, off a + S576x1024.size a ≤ S2304x1024.size a)
    (B : Fin 4 → Vec F S576x1024 .bf16) (f : Vec F S2304x1024 .bf16) {w : Vec F S576x1024 .bf16} (hw : w = B j)
    {hx : ((Memref.whole cc0_scratch1 : Memref sig .tc .vmem S2304x1024 .bf16).access (sRect off inb)).Stores Finset.univ} {hm : (Finset.univ : Finset (sRect off inb).shape.Idx) = Finset.univ ∨ ∀ a, (sRect off inb).stride a = 1}
    {α : Type} {Q : α → sProp 𝕄} {k : PUnit → Prog (TpuEff nD τ sig (Elt F) Λ₀ .tc) α} :
    tPt c j f
      ⊢ iprop((tPt c j (tAssemble B) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch1 : Memref sig .tc .vmem S2304x1024 .bf16) (sRect off inb) w Finset.univ hx hm) k) Q) := by
  have e : ((Memref.whole cc0_scratch1 : Memref sig .tc .vmem S2304x1024 .bf16).access (sRect off inb)).set = tB j :=
    (View.set_slice_whole cc0_scratch1 (sRect off inb)).trans (tRect_set _ _ h inb)
  have hc : (tPt c j (((Memref.whole cc0_scratch1 : Memref sig .tc .vmem S2304x1024 .bf16).access (sRect off inb)).write (Elt F) f w Finset.univ) : sProp 𝕄) = tPt c j (tAssemble B) :=
    pointsTo_congr fun i hi => t_store h inb B f w hw i hi
  iintro H Hk
  iapply (wp_store 𝒱₀ (c : Thread nD τ) none Set.univ (m := (Memref.whole cc0_scratch1 : Memref sig .tc .vmem S2304x1024 .bf16)) (r := sRect off inb) (Mk := Finset.univ) (S := tB j) (f := f)
    (Eq.subset e)) $$ H
  iintro H
  iapply Hk
  iapply (Entails.of_eq hc)
  iexact H

/-- A store of a block into its place. -/
theorem wp_st_g {j : Fin 4} {off : Fin 2 → Nat} (h : off = ![8 * j.val, 0]) (inb : ∀ a, off a + S8x128.size a ≤ S32x128.size a)
    (B : Fin 4 → Vec F S8x128 .i32) (f : Vec F S32x128 .i32) {w : Vec F S8x128 .i32} (hw : w = B j)
    {hx : ((Memref.whole cc0_scratch2 : Memref sig .tc .vmem S32x128 .i32).access (cRect off inb)).Stores Finset.univ} {hm : (Finset.univ : Finset (cRect off inb).shape.Idx) = Finset.univ ∨ ∀ a, (cRect off inb).stride a = 1}
    {α : Type} {Q : α → sProp 𝕄} {k : PUnit → Prog (TpuEff nD τ sig (Elt F) Λ₀ .tc) α} :
    gPt c j f
      ⊢ iprop((gPt c j (gAssemble B) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch2 : Memref sig .tc .vmem S32x128 .i32) (cRect off inb) w Finset.univ hx hm) k) Q) := by
  have e : ((Memref.whole cc0_scratch2 : Memref sig .tc .vmem S32x128 .i32).access (cRect off inb)).set = gB j :=
    (View.set_slice_whole cc0_scratch2 (cRect off inb)).trans (gRect_set _ _ h inb)
  have hc : (gPt c j (((Memref.whole cc0_scratch2 : Memref sig .tc .vmem S32x128 .i32).access (cRect off inb)).write (Elt F) f w Finset.univ) : sProp 𝕄) = gPt c j (gAssemble B) :=
    pointsTo_congr fun i hi => g_store h inb B f w hw i hi
  iintro H Hk
  iapply (wp_store 𝒱₀ (c : Thread nD τ) none Set.univ (m := (Memref.whole cc0_scratch2 : Memref sig .tc .vmem S32x128 .i32)) (r := cRect off inb) (Mk := Finset.univ) (S := gB j) (f := f)
    (Eq.subset e)) $$ H
  iintro H
  iapply Hk
  iapply (Entails.of_eq hc)
  iexact H

/-- A load of a block. -/
theorem wp_ld_s {j : Fin 4} {off : Fin 2 → Nat} (h : off = ![576 * j.val, 0]) (inb : ∀ a, off a + S576x1024.size a ≤ S2304x1024.size a)
    (f : Vec F S2304x1024 .bf16)
    {hl : (Memref.whole cc0_scratch0 : Memref sig .tc .vmem S2304x1024 .bf16).view.LoadsAt (sRect off inb).toLoadRect}
    {α : Type} {Q : α → sProp 𝕄} {k : Vec F S576x1024 .bf16 → Prog (TpuEff nD τ sig (Elt F) Λ₀ .tc) α} :
    sPt c j f
      ⊢ iprop((sPt c j f -∗ wp frame (wpE (defs₀ (F := F)) 𝒱₀ (c : Thread nD τ) none) Set.univ
                (k ((Memref.whole cc0_scratch0 : Memref sig .tc .vmem S2304x1024 .bf16).view.readAt (Elt F) (sRect off inb).toLoadRect f)) Q)
          -∗ wp frame (wpE (defs₀ (F := F)) 𝒱₀ (c : Thread nD τ) none) Set.univ
              (.op (.load (Memref.whole cc0_scratch0 : Memref sig .tc .vmem S2304x1024 .bf16) (sRect off inb).toLoadRect hl) k) Q) := by
  have e : ((Memref.whole cc0_scratch0 : Memref sig .tc .vmem S2304x1024 .bf16).access (sRect off inb)).set = tB j :=
    (View.set_slice_whole cc0_scratch0 (sRect off inb)).trans (tRect_set _ _ h inb)
  exact wp_load_rect 𝒱₀ (c : Thread nD τ) none Set.univ (m := (Memref.whole cc0_scratch0 : Memref sig .tc .vmem S2304x1024 .bf16)) (r := sRect off inb) (S := tB j) (f := f) (Eq.subset e)

/-- A load of a block. -/
theorem wp_ld_t {j : Fin 4} {off : Fin 2 → Nat} (h : off = ![576 * j.val, 0]) (inb : ∀ a, off a + S576x1024.size a ≤ S2304x1024.size a)
    (f : Vec F S2304x1024 .bf16)
    {hl : (Memref.whole cc0_scratch1 : Memref sig .tc .vmem S2304x1024 .bf16).view.LoadsAt (sRect off inb).toLoadRect}
    {α : Type} {Q : α → sProp 𝕄} {k : Vec F S576x1024 .bf16 → Prog (TpuEff nD τ sig (Elt F) Λ₀ .tc) α} :
    tPt c j f
      ⊢ iprop((tPt c j f -∗ wp frame (wpE (defs₀ (F := F)) 𝒱₀ (c : Thread nD τ) none) Set.univ
                (k ((Memref.whole cc0_scratch1 : Memref sig .tc .vmem S2304x1024 .bf16).view.readAt (Elt F) (sRect off inb).toLoadRect f)) Q)
          -∗ wp frame (wpE (defs₀ (F := F)) 𝒱₀ (c : Thread nD τ) none) Set.univ
              (.op (.load (Memref.whole cc0_scratch1 : Memref sig .tc .vmem S2304x1024 .bf16) (sRect off inb).toLoadRect hl) k) Q) := by
  have e : ((Memref.whole cc0_scratch1 : Memref sig .tc .vmem S2304x1024 .bf16).access (sRect off inb)).set = tB j :=
    (View.set_slice_whole cc0_scratch1 (sRect off inb)).trans (tRect_set _ _ h inb)
  exact wp_load_rect 𝒱₀ (c : Thread nD τ) none Set.univ (m := (Memref.whole cc0_scratch1 : Memref sig .tc .vmem S2304x1024 .bf16)) (r := sRect off inb) (S := tB j) (f := f) (Eq.subset e)

/-- A load of a block. -/
theorem wp_ld_g {j : Fin 4} {off : Fin 2 → Nat} (h : off = ![8 * j.val, 0]) (inb : ∀ a, off a + S8x128.size a ≤ S32x128.size a)
    (f : Vec F S32x128 .i32)
    {hl : (Memref.whole cc0_scratch2 : Memref sig .tc .vmem S32x128 .i32).view.LoadsAt (cRect off inb).toLoadRect}
    {α : Type} {Q : α → sProp 𝕄} {k : Vec F S8x128 .i32 → Prog (TpuEff nD τ sig (Elt F) Λ₀ .tc) α} :
    gPt c j f
      ⊢ iprop((gPt c j f -∗ wp frame (wpE (defs₀ (F := F)) 𝒱₀ (c : Thread nD τ) none) Set.univ
                (k ((Memref.whole cc0_scratch2 : Memref sig .tc .vmem S32x128 .i32).view.readAt (Elt F) (cRect off inb).toLoadRect f)) Q)
          -∗ wp frame (wpE (defs₀ (F := F)) 𝒱₀ (c : Thread nD τ) none) Set.univ
              (.op (.load (Memref.whole cc0_scratch2 : Memref sig .tc .vmem S32x128 .i32) (cRect off inb).toLoadRect hl) k) Q) := by
  have e : ((Memref.whole cc0_scratch2 : Memref sig .tc .vmem S32x128 .i32).access (cRect off inb)).set = gB j :=
    (View.set_slice_whole cc0_scratch2 (cRect off inb)).trans (gRect_set _ _ h inb)
  exact wp_load_rect 𝒱₀ (c : Thread nD τ) none Set.univ (m := (Memref.whole cc0_scratch2 : Memref sig .tc .vmem S32x128 .i32)) (r := cRect off inb) (S := gB j) (f := f) (Eq.subset e)

/-- A load of a whole buffer. -/
theorem wp_ld_x (q : PosShare TreeShare) (f : Vec F S2048x1024 .bf16) {inb : ∀ a, (![0, 0] : Fin 2 → Nat) a + S2048x1024.size a ≤ S2048x1024.size a}
    {hl : (Memref.whole cc0_stg0_0 : Memref sig .tc .vmem S2048x1024 .bf16).view.LoadsAt (Rect.unit (s := S2048x1024) ![0, 0] S2048x1024.size inb).toLoadRect}
    {α : Type} {Q : α → sProp 𝕄} {k : Vec F S2048x1024 .bf16 → Prog (TpuEff nD τ sig (Elt F) Λ₀ .tc) α} :
    (((c : Thread nD τ).loc cc0_stg0_0) ↦{q} f : sProp 𝕄)
      ⊢ iprop(((((c : Thread nD τ).loc cc0_stg0_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg0_0 : Memref sig .tc .vmem S2048x1024 .bf16) (Rect.unit (s := S2048x1024) ![0, 0] S2048x1024.size inb).toLoadRect hl) k) Q) := by
  have h := wp_load (Q := Q) (k := k) (defs := defs₀ (F := F)) (Γ := PendingWaitsCtx.empty) (hl := hl) (q := q) 𝒱₀ (c : Thread nD τ) none Set.univ
    (m := (Memref.whole cc0_stg0_0 : Memref sig .tc .vmem S2048x1024 .bf16)) (S := Finset.univ) (f := f) (Finset.subset_univ _)
  have e : (Memref.whole cc0_stg0_0 : Memref sig .tc .vmem S2048x1024 .bf16).view.readAt (Elt F) (Rect.unit (s := S2048x1024) ![0, 0] S2048x1024.size inb).toLoadRect f = f :=
    Memref.readAt_unit_zero (Elt F) cc0_stg0_0 z2 inb f
  rw [e] at h
  exact h

/-- A load of a whole buffer. -/
theorem wp_ld_tv (q : PosShare TreeShare) (f : Vec F S1x2048 .i32) {inb : ∀ a, (![0, 0] : Fin 2 → Nat) a + S1x2048.size a ≤ S1x2048.size a}
    {hl : (Memref.whole cc0_stg1_0 : Memref sig .tc .vmem S1x2048 .i32).view.LoadsAt (Rect.unit (s := S1x2048) ![0, 0] S1x2048.size inb).toLoadRect}
    {α : Type} {Q : α → sProp 𝕄} {k : Vec F S1x2048 .i32 → Prog (TpuEff nD τ sig (Elt F) Λ₀ .tc) α} :
    (((c : Thread nD τ).loc cc0_stg1_0) ↦{q} f : sProp 𝕄)
      ⊢ iprop(((((c : Thread nD τ).loc cc0_stg1_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg1_0 : Memref sig .tc .vmem S1x2048 .i32) (Rect.unit (s := S1x2048) ![0, 0] S1x2048.size inb).toLoadRect hl) k) Q) := by
  have h := wp_load (Q := Q) (k := k) (defs := defs₀ (F := F)) (Γ := PendingWaitsCtx.empty) (hl := hl) (q := q) 𝒱₀ (c : Thread nD τ) none Set.univ
    (m := (Memref.whole cc0_stg1_0 : Memref sig .tc .vmem S1x2048 .i32)) (S := Finset.univ) (f := f) (Finset.subset_univ _)
  have e : (Memref.whole cc0_stg1_0 : Memref sig .tc .vmem S1x2048 .i32).view.readAt (Elt F) (Rect.unit (s := S1x2048) ![0, 0] S1x2048.size inb).toLoadRect f = f :=
    Memref.readAt_unit_zero (Elt F) cc0_stg1_0 z2 inb f
  rw [e] at h
  exact h

/-- A load of a whole buffer. -/
theorem wp_ld_c (q : PosShare TreeShare) (f : Vec F S8x128 .i32) {inb : ∀ a, (![0, 0] : Fin 2 → Nat) a + S8x128.size a ≤ S8x128.size a}
    {hl : (Memref.whole cc0_stg2_0 : Memref sig .tc .vmem S8x128 .i32).view.LoadsAt (Rect.unit (s := S8x128) ![0, 0] S8x128.size inb).toLoadRect}
    {α : Type} {Q : α → sProp 𝕄} {k : Vec F S8x128 .i32 → Prog (TpuEff nD τ sig (Elt F) Λ₀ .tc) α} :
    (((c : Thread nD τ).loc cc0_stg2_0) ↦{q} f : sProp 𝕄)
      ⊢ iprop(((((c : Thread nD τ).loc cc0_stg2_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg2_0 : Memref sig .tc .vmem S8x128 .i32) (Rect.unit (s := S8x128) ![0, 0] S8x128.size inb).toLoadRect hl) k) Q) := by
  have h := wp_load (Q := Q) (k := k) (defs := defs₀ (F := F)) (Γ := PendingWaitsCtx.empty) (hl := hl) (q := q) 𝒱₀ (c : Thread nD τ) none Set.univ
    (m := (Memref.whole cc0_stg2_0 : Memref sig .tc .vmem S8x128 .i32)) (S := Finset.univ) (f := f) (Finset.subset_univ _)
  have e : (Memref.whole cc0_stg2_0 : Memref sig .tc .vmem S8x128 .i32).view.readAt (Elt F) (Rect.unit (s := S8x128) ![0, 0] S8x128.size inb).toLoadRect f = f :=
    Memref.readAt_unit_zero (Elt F) cc0_stg2_0 z2 inb f
  rw [e] at h
  exact h

/-- A load of a whole buffer. -/
theorem wp_ld_o (q : PosShare TreeShare) (f : Vec F S2048x1024 .f32) {inb : ∀ a, (![0, 0] : Fin 2 → Nat) a + S2048x1024.size a ≤ S2048x1024.size a}
    {hl : (Memref.whole cc0_stg3_0 : Memref sig .tc .vmem S2048x1024 .f32).view.LoadsAt (Rect.unit (s := S2048x1024) ![0, 0] S2048x1024.size inb).toLoadRect}
    {α : Type} {Q : α → sProp 𝕄} {k : Vec F S2048x1024 .f32 → Prog (TpuEff nD τ sig (Elt F) Λ₀ .tc) α} :
    (((c : Thread nD τ).loc cc0_stg3_0) ↦{q} f : sProp 𝕄)
      ⊢ iprop(((((c : Thread nD τ).loc cc0_stg3_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg3_0 : Memref sig .tc .vmem S2048x1024 .f32) (Rect.unit (s := S2048x1024) ![0, 0] S2048x1024.size inb).toLoadRect hl) k) Q) := by
  have h := wp_load (Q := Q) (k := k) (defs := defs₀ (F := F)) (Γ := PendingWaitsCtx.empty) (hl := hl) (q := q) 𝒱₀ (c : Thread nD τ) none Set.univ
    (m := (Memref.whole cc0_stg3_0 : Memref sig .tc .vmem S2048x1024 .f32)) (S := Finset.univ) (f := f) (Finset.subset_univ _)
  have e : (Memref.whole cc0_stg3_0 : Memref sig .tc .vmem S2048x1024 .f32).view.readAt (Elt F) (Rect.unit (s := S2048x1024) ![0, 0] S2048x1024.size inb).toLoadRect f = f :=
    Memref.readAt_unit_zero (Elt F) cc0_stg3_0 z2 inb f
  rw [e] at h
  exact h

/-- A load of a whole buffer. -/
theorem wp_ld_gg (q : PosShare TreeShare) (f : Vec F S32x128 .i32) {inb : ∀ a, (![0, 0] : Fin 2 → Nat) a + S32x128.size a ≤ S32x128.size a}
    {hl : (Memref.whole cc0_scratch2 : Memref sig .tc .vmem S32x128 .i32).view.LoadsAt (Rect.unit (s := S32x128) ![0, 0] S32x128.size inb).toLoadRect}
    {α : Type} {Q : α → sProp 𝕄} {k : Vec F S32x128 .i32 → Prog (TpuEff nD τ sig (Elt F) Λ₀ .tc) α} :
    (((c : Thread nD τ).loc cc0_scratch2) ↦{q} f : sProp 𝕄)
      ⊢ iprop(((((c : Thread nD τ).loc cc0_scratch2) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_scratch2 : Memref sig .tc .vmem S32x128 .i32) (Rect.unit (s := S32x128) ![0, 0] S32x128.size inb).toLoadRect hl) k) Q) := by
  have h := wp_load (Q := Q) (k := k) (defs := defs₀ (F := F)) (Γ := PendingWaitsCtx.empty) (hl := hl) (q := q) 𝒱₀ (c : Thread nD τ) none Set.univ
    (m := (Memref.whole cc0_scratch2 : Memref sig .tc .vmem S32x128 .i32)) (S := Finset.univ) (f := f) (Finset.subset_univ _)
  have e : (Memref.whole cc0_scratch2 : Memref sig .tc .vmem S32x128 .i32).view.readAt (Elt F) (Rect.unit (s := S32x128) ![0, 0] S32x128.size inb).toLoadRect f = f :=
    Memref.readAt_unit_zero (Elt F) cc0_scratch2 z2 inb f
  rw [e] at h
  exact h

/-- A store of the whole result. -/
theorem wp_st_o (f : Vec F S2048x1024 .f32) {w : Vec F S2048x1024 .f32} {inb : ∀ a, (![0, 0] : Fin 2 → Nat) a + S2048x1024.size a ≤ S2048x1024.size a}
    {hx : ((Memref.whole cc0_stg3_0 : Memref sig .tc .vmem S2048x1024 .f32).access (Rect.unit (s := S2048x1024) ![0, 0] S2048x1024.size inb)).Stores Finset.univ}
    {hm : (Finset.univ : Finset (Rect.unit (s := S2048x1024) ![0, 0] S2048x1024.size inb).shape.Idx) = Finset.univ ∨ ∀ a, (Rect.unit (s := S2048x1024) ![0, 0] S2048x1024.size inb).stride a = 1}
    {α : Type} {Q : α → sProp 𝕄} {k : PUnit → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg3_0 : Memref sig .tc .vmem S2048x1024 .f32) (Rect.unit (s := S2048x1024) ![0, 0] S2048x1024.size inb) w Finset.univ hx hm) k) Q) := by
  have h := wp_store (Q := Q) (k := k) (defs := defs₀ (F := F)) (Γ := PendingWaitsCtx.empty) (hx := hx) (hm := hm) 𝒱₀ (c : Thread nD τ) none Set.univ
    (m := (Memref.whole cc0_stg3_0 : Memref sig .tc .vmem S2048x1024 .f32)) (w := w) (S := Finset.univ) (f := f) (Finset.subset_univ _)
  have e : ((Memref.whole cc0_stg3_0 : Memref sig .tc .vmem S2048x1024 .f32).access (Rect.unit (s := S2048x1024) ![0, 0] S2048x1024.size inb)).write (Elt F) f w Finset.univ = w :=
    Memref.write_access_unit_zero_univ (Elt F) cc0_stg3_0 z2 inb f w
  rw [e] at h
  exact h

end LoadStore

variable (m : (ℓ : Loc nD τ sig) → Buf (Elt F) ℓ)

/-! ## The names of the cells' invariants -/

def barEmb : Dev nD ↪ GSem nD τ sig := ⟨fun c => barCell c, fun _ _ h => congrArg (fun g : GSem nD τ sig => g.1.1) h⟩
theorem semIx_inj : Function.Injective fun p : Fin 4 × Fin 3 => (SemLoc.dma (semIx p.1 p.2) : SemLoc sig) := fun p q h =>
  Option.some.inj ((untag_dma p.1 p.2).symm.trans ((congrArg untag h).trans (untag_dma q.1 q.2)))
def scEmb : Dev nD × (Fin 4 × Fin 3) ↪ GSem nD τ sig :=
  ⟨fun p => xc p.2.1 p.2.2 p.1, fun _ _ h => Prod.ext (congrArg (fun g : GSem nD τ sig => g.1.1) h) (semIx_inj (congrArg Prod.snd h))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem xc_mem (k : Fin 4) (d : Fin 3) (c : Dev nD) : xc k d c ∈ (barCells ∪ scCells : Finset (GSem nD τ sig)) :=
  Finset.mem_union_right _ (Finset.mem_map_of_mem scEmb (Finset.mem_univ (c, (k, d))))

/-- Every cell's invariant under one map of names, and round 0 of every barrier cell reached. -/
def records (κ : GSem nD τ sig → ℕ) : sProp 𝕄 :=
  iprop((bigSep (barCells ∪ scCells) fun g => cellInv ER (rd m) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    records m κ ⊢ cellInv ER (rd m) (κ g) g := by
  unfold records
  exact (BI.sep_and.trans BI.and_elimL).trans (bigSep_elim (Φ := fun g => (cellInv ER (rd m) (κ g) g : sProp 𝕄)) hg)
theorem reached_at (κ : GSem nD τ sig → ℕ) (c : Dev nD) : records m κ ⊢ reached ER (barCell c) 0 := by
  unfold records
  exact (BI.sep_and.trans BI.and_elimR).trans (bigSep_elim (Φ := fun g => (reached ER g 0 : sProp 𝕄)) (Finset.mem_map_of_mem barEmb (Finset.mem_univ c)))

/-! ## The steps -/

variable (κ : GSem nD τ sig → ℕ)

/-- Signalling the peer `d + 1` steps further: hands it the two blocks it will write, and that the cells it will credit are open. -/
theorem wp_sig (d : Fin 3) (c n : Dev nD) (hn : n = pe d c) (O : CellTallies nD τ sig Unit) (W : Waits sig Unit) {amt : ℕ} (hamt : amt = 1)
    (f : Vec F S32x128 .i32) (f' : Vec F S2304x1024 .bf16)
    {α : Type} {Q : α → sProp 𝕄} {k : PUnit → Prog (TpuEff nD τ sig (Elt F) Λ₀ .tc) α} :
    iprop(records m κ ∗ owes (c : Thread nD τ) (O + bT d c) W ∗ dutyTok ER (barCell (pe d c)) 0 d
        ∗ gPt c (yc (pe d c)) f ∗ tPt c (yc (pe d c)) f' ∗ reached ER (xc 3 d.rev c) 0 ∗ reached ER (xc 1 d.rev c) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barrier0 amt) k) Q) := by
  subst hn hamt
  iintro ⟨#HR, HO, Ht, Hg, Hx, #Hr3, #Hr1⟩ Hk
  iapply (Rounds.wp_signal 𝒱₀ ER (rd m) (c : Thread nD τ) none (dst := (pe d c : Thread nD τ)) (sem := barrier0) (r := 0) (d := d) (κ := κ (barCell (pe d c)))
      (by rw [duties_bar]; exact Finset.mem_univ _) (amount_bar m (pe d c) d) () O rfl) $$ [HO Ht Hg Hx]
  · isplitr; · iapply (inv_at m κ (bar_mem (pe d c))); iexact HR
    isplitl [HO]; · iexact HO
    isplitl [Ht]; · iexact Ht
    isplitl [Hg Hx]
    · rw [payload_bar]; unfold barPay; rw [fr_pe]
      isplitl [Hg]; · iexists f; iexact Hg
      isplitl [Hx]; · iexists f'; iexact Hx
      isplitr; · iexact Hr3
      iexact Hr1
    · iapply (reached_at m κ (pe d c)); iexact HR
  iexact Hk

/-- Awaiting a transfer, owing nothing: its cell is closed, the counter back at zero, and what it was paid with is in hand. -/
theorem wp_await (k : Fin 4) (d : Fin 3) (c : Dev nD) {sp sp' : Space} {s : Shape} {e : EltTy} {src : Memref sig .tc sp s e} {dst : Memref sig .tc sp' s e}
    {hsrc : src.view.WordExact} {hdst : dst.view.WordExact} (hN : dst.view.dmaCredit = xAmt k)
    {α : Type} {Q : α → sProp 𝕄} {K : PUnit → Prog (TpuEff nD τ sig (Elt F) Λ₀ .tc) α} :
    iprop(records m κ ∗ cred (tallyAt (xc k d c) () (xAmt k)) ∗ (∃ W, owes (c : Thread nD τ) 0 W) ∗ atPos ER (xc k d c) 0 ∅ 0)
      ⊢ iprop((((∃ W, owes (c : Thread nD τ) 0 W) ∗ semVal (xc k d c) 0 ∗ dmaPay m k d c)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 (semIx k d) src dst hsrc hdst) K) Q) := by
  iintro ⟨#HR, Hc, ⟨%W, HO⟩, Hat⟩ Hk
  iapply (Rounds.wp_wait_rest_token 𝒱₀ ER (rd m) (c : Thread nD τ) none (κ := κ (xc k d c))
      (wpE_waitDma2_eq 𝒱₀ (c : Thread nD τ) none Set.univ) (Set.mem_univ _) () (O := 0) (W := W) (R := 0) (m := 0) (T := ∅)
      (by rw [Nat.zero_add, hN, expect_xc])) $$ [Hc HO Hat]
  · isplitr; · iapply (inv_at m κ (xc_mem k d c)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_xc m c k d)) $$ Hpay
  imod (close m (κ (xc k d c)) (xc k d c)) $$ [Hat] with Hs
  · isplitr; · iapply (inv_at m κ (xc_mem k d c)); iexact HR
    iexact Hat
  iapply Hk
  isplitl [HO]; · iexists _; iexact HO
  isplitl [Hs]; · iexact Hs
  iexact Hp

/-- Sending the rows packed for the peer `d + 1` steps further. -/
theorem wp_send_x (d : Fin 3) (c n : Dev nD) (hn : n = pe d c) {offS offD : Fin 2 → Nat}
    (hS : offS = ![576 * (yc (pe d c)).val, 0]) (inbS : ∀ a, offS a + S576x1024.size a ≤ S2304x1024.size a)
    (hD : offD = ![576 * (yc c).val, 0]) (inbD : ∀ a, offD a + S576x1024.size a ≤ S2304x1024.size a) (hs hs')
    (O : CellTallies nD τ sig Unit) (W : Waits sig Unit) (f : Vec F S2304x1024 .bf16)
    {hsc : ((Memref.whole cc0_scratch1 : Memref sig .tc .vmem S2304x1024 .bf16).slice (sRect offD inbD) hs').view.ref.isScScratch = false}
    {hsrc : ((Memref.whole cc0_scratch0 : Memref sig .tc .vmem S2304x1024 .bf16).slice (sRect offS inbS) hs).view.WordExact}
    {hdst : ((Memref.whole cc0_scratch1 : Memref sig .tc .vmem S2304x1024 .bf16).slice (sRect offD inbD) hs').view.WordExact}
    {hsem : DmaTarget.Typed .vmem (.dma (semIx 1 d)) (.remote (Dev.tc n : Thread nD τ) ((Memref.whole cc0_scratch1 : Memref sig .tc .vmem S2304x1024 .bf16).slice (sRect offD inbD) hs') (.dma (semIx 0 d)) hsc)}
    {α : Type} {Q : α → sProp 𝕄} {k : PUnit → Prog (TpuEff nD τ sig (Elt F) Λ₀ .tc) α} :
    iprop(records m κ ∗ sPt c (yc (pe d c)) (sAll m c) ∗ tPt (pe d c) (yc c) f ∗ owes (c : Thread nD τ) (O + rxT d c) W
        ∗ dutyTok ER (xc 0 d c) 0 0 ∗ reached ER (xc 0 d c) 0 ∗ dutyTok ER (xc 1 d (pe d c)) 0 0 ∗ reached ER (xc 1 d (pe d c)) 0)
      ⊢ iprop(((cred (tallyAt (xc 0 d c) () (xAmt 0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch0 : Memref sig .tc .vmem S2304x1024 .bf16).slice (sRect offS inbS) hs)
                (.remote (Dev.tc n : Thread nD τ) ((Memref.whole cc0_scratch1 : Memref sig .tc .vmem S2304x1024 .bf16).slice (sRect offD inbD) hs') (.dma (semIx 0 d)) hsc)
                (.dma (semIx 1 d)) hsrc hdst hsem) k) Q) := by
  subst hn
  have eS : ((Memref.whole cc0_scratch0 : Memref sig .tc .vmem S2304x1024 .bf16).slice (sRect offS inbS) hs).view.set = tB (yc (pe d c)) :=
    (View.set_slice_whole cc0_scratch0 (sRect offS inbS)).trans (tRect_set _ _ hS inbS)
  have eD : ((Memref.whole cc0_scratch1 : Memref sig .tc .vmem S2304x1024 .bf16).slice (sRect offD inbD) hs').view.set = tB (yc c) :=
    (View.set_slice_whole cc0_scratch1 (sRect offD inbD)).trans (tRect_set _ _ hD inbD)
  have h := Rounds.wp_send_pointsTo (Q := Q) (k := k) (hsc := hsc) (hsrc := hsrc) (hdst := hdst) (hsem := hsem) (defs := defs₀ (F := F)) (Γ := PendingWaitsCtx.empty) 𝒱₀ ER (rd m) (c : Thread nD τ) none (c' := (pe d c : Thread nD τ))
    (src := (Memref.whole cc0_scratch0 : Memref sig .tc .vmem S2304x1024 .bf16).slice (sRect offS inbS) hs)
    (dst := (Memref.whole cc0_scratch1 : Memref sig .tc .vmem S2304x1024 .bf16).slice (sRect offD inbD) hs')
    (sS := .dma (semIx 0 d)) (sem := .dma (semIx 1 d)) (q := fullShare) (fs := sAll m c) (κ₁ := κ (xc 0 d c)) (κ₂ := κ (xc 1 d (pe d c)))
    (r₁ := 0) (r₂ := 0) (d₁ := (0 : Fin 3)) (d₂ := (0 : Fin 3)) (fd := f) (Es := Set.univ)
    (by rw [duties_xc]; exact Finset.mem_singleton_self _) (by rw [duties_xc]; exact Finset.mem_singleton_self _)
    () () Nx rfl (amount_xc m c 0 d 0) (amount_xc m (pe d c) 1 d 0) O rfl (W := W)
    (by rw [payload_xc, eS]; exact BI.Entails.refl _)
    (by
      rw [payload_xc, eD]
      refine Entails.of_eq ?_
      show _ = tPt (pe d c) (yc (fr d (pe d c))) (stgAll m (pe d c))
      rw [fr_pe]
      refine pointsTo_congr fun i hi => ?_
      refine t_land hS inbS hD inbD hs hs' _ _ f ?_ i hi
      rw [src_pe_yc])
  rw [eS, eD] at h
  iintro ⟨#HR, Hs, Hd, HO, HtS, HrS, HtD, HrD⟩
  iapply h
  isplitr; · iapply (inv_at m κ (xc_mem 0 d c)); iexact HR
  isplitr; · iapply (inv_at m κ (xc_mem 1 d (pe d c))); iexact HR
  isplitl [Hs]; · iexact Hs
  isplitl [Hd]; · iexact Hd
  isplitl [HO]; · iexact HO
  isplitl [HtS]; · iexact HtS
  isplitl [HrS]; · iexact HrS
  isplitl [HtD]; · iexact HtD
  iexact HrD

/-- Sending the counts to the peer `d + 1` steps further. -/
theorem wp_send_c (d : Fin 3) (c n : Dev nD) (hn : n = pe d c) {offD : Fin 2 → Nat}
    (hD : offD = ![8 * (yc c).val, 0]) (inbD : ∀ a, offD a + S8x128.size a ≤ S32x128.size a) (hs')
    (O : CellTallies nD τ sig Unit) (W : Waits sig Unit) (f : Vec F S32x128 .i32)
    {hsc : ((Memref.whole cc0_scratch2 : Memref sig .tc .vmem S32x128 .i32).slice (cRect offD inbD) hs').view.ref.isScScratch = false}
    {hsrc : (Memref.whole cc0_stg2_0 : Memref sig .tc .vmem S8x128 .i32).view.WordExact}
    {hdst : ((Memref.whole cc0_scratch2 : Memref sig .tc .vmem S32x128 .i32).slice (cRect offD inbD) hs').view.WordExact}
    {hsem : DmaTarget.Typed .vmem (.dma (semIx 3 d)) (.remote (Dev.tc n : Thread nD τ) ((Memref.whole cc0_scratch2 : Memref sig .tc .vmem S32x128 .i32).slice (cRect offD inbD) hs') (.dma (semIx 2 d)) hsc)}
    {α : Type} {Q : α → sProp 𝕄} {k : PUnit → Prog (TpuEff nD τ sig (Elt F) Λ₀ .tc) α} :
    iprop(records m κ ∗ cPt m c (third d) ∗ gPt (pe d c) (yc c) f ∗ owes (c : Thread nD τ) (O + rcT d c) W
        ∗ dutyTok ER (xc 2 d c) 0 0 ∗ reached ER (xc 2 d c) 0 ∗ dutyTok ER (xc 3 d (pe d c)) 0 0 ∗ reached ER (xc 3 d (pe d c)) 0)
      ⊢ iprop(((cred (tallyAt (xc 2 d c) () (xAmt 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg2_0 : Memref sig .tc .vmem S8x128 .i32)
                (.remote (Dev.tc n : Thread nD τ) ((Memref.whole cc0_scratch2 : Memref sig .tc .vmem S32x128 .i32).slice (cRect offD inbD) hs') (.dma (semIx 2 d)) hsc)
                (.dma (semIx 3 d)) hsrc hdst hsem) k) Q) := by
  subst hn
  have eS : (Memref.whole cc0_stg2_0 : Memref sig .tc .vmem S8x128 .i32).view.set = Finset.univ := View.set_whole _
  have eD : ((Memref.whole cc0_scratch2 : Memref sig .tc .vmem S32x128 .i32).slice (cRect offD inbD) hs').view.set = gB (yc c) :=
    (View.set_slice_whole cc0_scratch2 (cRect offD inbD)).trans (gRect_set _ _ hD inbD)
  have h := Rounds.wp_send_pointsTo (Q := Q) (k := k) (hsc := hsc) (hsrc := hsrc) (hdst := hdst) (hsem := hsem) (defs := defs₀ (F := F)) (Γ := PendingWaitsCtx.empty) 𝒱₀ ER (rd m) (c : Thread nD τ) none (c' := (pe d c : Thread nD τ))
    (src := (Memref.whole cc0_stg2_0 : Memref sig .tc .vmem S8x128 .i32))
    (dst := (Memref.whole cc0_scratch2 : Memref sig .tc .vmem S32x128 .i32).slice (cRect offD inbD) hs')
    (sS := .dma (semIx 2 d)) (sem := .dma (semIx 3 d)) (q := third d) (fs := cnt m c) (κ₁ := κ (xc 2 d c)) (κ₂ := κ (xc 3 d (pe d c)))
    (r₁ := 0) (r₂ := 0) (d₁ := (0 : Fin 3)) (d₂ := (0 : Fin 3)) (fd := f) (Es := Set.univ)
    (by rw [duties_xc]; exact Finset.mem_singleton_self _) (by rw [duties_xc]; exact Finset.mem_singleton_self _)
    () () Nc rfl (amount_xc m c 2 d 0) (amount_xc m (pe d c) 3 d 0) O rfl (W := W)
    (by rw [payload_xc, eS]; exact BI.Entails.refl _)
    (by
      rw [payload_xc, eD]
      refine Entails.of_eq ?_
      show _ = gPt (pe d c) (yc (fr d (pe d c))) (gAll m (pe d c))
      rw [fr_pe]
      refine pointsTo_congr fun i hi => ?_
      refine g_land hD inbD hs' _ _ f ?_ i hi
      rw [src_pe_yc])
  rw [eS, eD] at h
  iintro ⟨#HR, Hs, Hd, HO, HtS, HrS, HtD, HrD⟩
  iapply h
  isplitr; · iapply (inv_at m κ (xc_mem 2 d c)); iexact HR
  isplitr; · iapply (inv_at m κ (xc_mem 3 d (pe d c))); iexact HR
  isplitl [Hs]; · iexact Hs
  isplitl [Hd]; · iexact Hd
  isplitl [HO]; · iexact HO
  isplitl [HtS]; · iexact HtS
  isplitl [HrS]; · iexact HrS
  isplitl [HtD]; · iexact HtD
  iexact HrD

end Cert.KernelIdeal.A2A

end
-- ==== Proof.Body.lean ====
/- The kernel's body on one device: from what the device holds at the call to the result. -/
module

public import proofs.«01_k».proof.Proof.Rules
public import Idealize.ShloMosaic.Lib.Pipeline.Value

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## Cutting the scratch buffers into their blocks -/

section Cut

variable (c : Dev nD)

theorem tB_union : (Finset.univ : Finset (Fin 4)).biUnion tB = Finset.univ := by
  ext i; simp only [Finset.mem_biUnion, Finset.mem_univ, true_and, iff_true]; exact tB_cover i
theorem gB_union : (Finset.univ : Finset (Fin 4)).biUnion gB = Finset.univ := by
  ext i; simp only [Finset.mem_biUnion, Finset.mem_univ, true_and, iff_true]; exact gB_cover i

theorem to_nodup : ([yc c, yc (pe 0 c), yc (pe 1 c), yc (pe 2 c)] : List (Fin 4)).Nodup := by revert c; decide
theorem to_all : (Finset.univ : Finset (Fin 4)) = [yc c, yc (pe 0 c), yc (pe 1 c), yc (pe 2 c)].toFinset := by revert c; decide
theorem of_nodup : ([yc c, yc (fr 0 c), yc (fr 1 c), yc (fr 2 c)] : List (Fin 4)).Nodup := by revert c; decide
theorem of_all : (Finset.univ : Finset (Fin 4)) = [yc c, yc (fr 0 c), yc (fr 1 c), yc (fr 2 c)].toFinset := by revert c; decide

theorem s_cut (f : Vec F S2304x1024 .bf16) : (((c : Thread nD τ).loc cc0_scratch0) ↦{fullShare} f : sProp 𝕄)
    = iprop(sPt c (yc c) f ∗ sPt c (yc (pe 0 c)) f ∗ sPt c (yc (pe 1 c)) f ∗ sPt c (yc (pe 2 c)) f) :=
  (Ring.pointsTo_blocks (Ix := Unit) (Name := ℕ) (U := UU) (Lvl := ℕ) (ℓ := (c : Thread nD τ).loc cc0_scratch0) (I := tB) tB_disj tB_union f).trans
    (bigSep_univ_eq_bigSepL [yc c, yc (pe 0 c), yc (pe 1 c), yc (pe 2 c)] (to_all c) (to_nodup c) fun j => (sPt c j f : sProp 𝕄))
theorem t_cut (f : Vec F S2304x1024 .bf16) : (((c : Thread nD τ).loc cc0_scratch1) ↦{fullShare} f : sProp 𝕄)
    = iprop(tPt c (yc c) f ∗ tPt c (yc (pe 0 c)) f ∗ tPt c (yc (pe 1 c)) f ∗ tPt c (yc (pe 2 c)) f) :=
  (Ring.pointsTo_blocks (Ix := Unit) (Name := ℕ) (U := UU) (Lvl := ℕ) (ℓ := (c : Thread nD τ).loc cc0_scratch1) (I := tB) tB_disj tB_union f).trans
    (bigSep_univ_eq_bigSepL [yc c, yc (pe 0 c), yc (pe 1 c), yc (pe 2 c)] (to_all c) (to_nodup c) fun j => (tPt c j f : sProp 𝕄))
theorem g_cut (f : Vec F S32x128 .i32) : (((c : Thread nD τ).loc cc0_scratch2) ↦{fullShare} f : sProp 𝕄)
    = iprop(gPt c (yc c) f ∗ gPt c (yc (pe 0 c)) f ∗ gPt c (yc (pe 1 c)) f ∗ gPt c (yc (pe 2 c)) f) :=
  (Ring.pointsTo_blocks (Ix := Unit) (Name := ℕ) (U := UU) (Lvl := ℕ) (ℓ := (c : Thread nD τ).loc cc0_scratch2) (I := gB) gB_disj gB_union f).trans
    (bigSep_univ_eq_bigSepL [yc c, yc (pe 0 c), yc (pe 1 c), yc (pe 2 c)] (to_all c) (to_nodup c) fun j => (gPt c j f : sProp 𝕄))
theorem t_join (f : Vec F S2304x1024 .bf16) : (((c : Thread nD τ).loc cc0_scratch1) ↦{fullShare} f : sProp 𝕄)
    = iprop(tPt c (yc c) f ∗ tPt c (yc (fr 0 c)) f ∗ tPt c (yc (fr 1 c)) f ∗ tPt c (yc (fr 2 c)) f) :=
  (Ring.pointsTo_blocks (Ix := Unit) (Name := ℕ) (U := UU) (Lvl := ℕ) (ℓ := (c : Thread nD τ).loc cc0_scratch1) (I := tB) tB_disj tB_union f).trans
    (bigSep_univ_eq_bigSepL [yc c, yc (fr 0 c), yc (fr 1 c), yc (fr 2 c)] (of_all c) (of_nodup c) fun j => (tPt c j f : sProp 𝕄))
theorem g_join (f : Vec F S32x128 .i32) : (((c : Thread nD τ).loc cc0_scratch2) ↦{fullShare} f : sProp 𝕄)
    = iprop(gPt c (yc c) f ∗ gPt c (yc (fr 0 c)) f ∗ gPt c (yc (fr 1 c)) f ∗ gPt c (yc (fr 2 c)) f) :=
  (Ring.pointsTo_blocks (Ix := Unit) (Name := ℕ) (U := UU) (Lvl := ℕ) (ℓ := (c : Thread nD τ).loc cc0_scratch2) (I := gB) gB_disj gB_union f).trans
    (bigSep_univ_eq_bigSepL [yc c, yc (fr 0 c), yc (fr 1 c), yc (fr 2 c)] (of_all c) (of_nodup c) fun j => (gPt c j f : sProp 𝕄))
/-- The send buffer whole again, its blocks at whatever they hold. -/
theorem s_join (f₀ f : Vec F S2304x1024 .bf16) : iprop(sPt c (yc c) f₀ ∗ sPt c (yc (pe 0 c)) f ∗ sPt c (yc (pe 1 c)) f ∗ sPt c (yc (pe 2 c)) f)
    ⊢ (∃ g : Vec F S2304x1024 .bf16, ((c : Thread nD τ).loc cc0_scratch0) ↦{fullShare} g : sProp 𝕄) := by
  refine BIBase.Entails.trans ?_ (Ring.pointsTo_blocks_join_exists (ℓ := (c : Thread nD τ).loc cc0_scratch0) (I := tB) tB_disj tB_union f₀)
  rw [bigSep_univ_eq_bigSepL [yc c, yc (pe 0 c), yc (pe 1 c), yc (pe 2 c)] (to_all c) (to_nodup c)]
  show _ ⊢ iprop((∃ f, sPt c (yc c) f) ∗ (∃ f, sPt c (yc (pe 0 c)) f) ∗ (∃ f, sPt c (yc (pe 1 c)) f) ∗ (∃ f, sPt c (yc (pe 2 c)) f))
  iintro ⟨H0, H1, H2, H3⟩
  isplitl [H0]; · iexists f₀; iexact H0
  isplitl [H1]; · iexists f; iexact H1
  isplitl [H2]; · iexists f; iexact H2
  iexists f; iexact H3

end Cut

variable (m : (ℓ : Loc nD τ sig) → Buf (Elt F) ℓ) (κ : GSem nD τ sig → ℕ)

/-! ## The barrier -/

theorem barPay_to (d : Fin 3) (c : Dev nD) : (barPay d.rev c : sProp 𝕄)
    = iprop((∃ f, gPt (pe d c) (yc c) f) ∗ (∃ f, tPt (pe d c) (yc c) f) ∗ reached ER (xc 3 d (pe d c)) 0 ∗ reached ER (xc 1 d (pe d c)) 0) := by
  unfold barPay fr; rw [Fin.rev_rev]

/-- Awaiting the three signals, the cell closed after it. -/
theorem wp_bar (c : Dev nD) (W : Waits sig Unit) {amt : ℕ} (hamt : amt = 3)
    {α : Type} {Q : α → sProp 𝕄} {k : PUnit → Prog (TpuEff nD τ sig (Elt F) Λ₀ .tc) α} :
    iprop(records m κ ∗ levAts L lv ∗ cred (tallyAt (barCell c) () 3) ∗ owes (c : Thread nD τ) (O₁ c) W ∗ atPos ER (barCell c) 0 ∅ 0)
      ⊢ iprop((((∃ W, owes (c : Thread nD τ) (O₁ c) W) ∗ semVal (barCell c) 0 ∗ barPay (Fin.rev 2) c ∗ barPay (Fin.rev 1) c ∗ barPay (Fin.rev 0) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 amt) k) Q) := by
  subst hamt
  iintro ⟨#HR, #Hlev, Hc, HO, Hat⟩ Hk
  iapply (Rounds.wp_wait_rest_token 𝒱₀ ER (rd m) (c : Thread nD τ) none (κ := κ (barCell c))
      (wpE_semWait_eq 𝒱₀ (c : Thread nD τ) none Set.univ) (Set.mem_univ _) () (O := O₁ c) (W := W) (R := 0) (m := 0) (T := ∅)
      ((Nat.zero_add 3).trans (expect_bar m c).symm)) $$ [Hc HO Hat]
  · isplitr; · iapply (inv_at m κ (bar_mem c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (close m (κ (barCell c)) (barCell c)) $$ [Hat] with Hs
  · isplitr; · iapply (inv_at m κ (bar_mem c)); iexact HR
    iexact Hat
  iapply Hk
  isplitl [HO]; · iexists _; iexact HO
  isplitl [Hs]; · iexact Hs
  iexact Hp

/-! ## What the device holds before and after -/

abbrev pos (k : Fin 4) (c : Dev nD) : sProp 𝕄 := iprop(atPos ER (xc k 0 c) 0 ∅ 0 ∗ atPos ER (xc k 1 c) 0 ∅ 0 ∗ atPos ER (xc k 2 c) 0 ∅ 0)
abbrev rch (k : Fin 4) (c : Dev nD) : sProp 𝕄 := iprop(reached ER (xc k 0 c) 0 ∗ reached ER (xc k 1 c) 0 ∗ reached ER (xc k 2 c) 0)
abbrev tok (d : Fin 3) (c : Dev nD) : sProp 𝕄 :=
  iprop(dutyTok ER (barCell (pe d c)) 0 d ∗ dutyTok ER (xc 0 d c) 0 0 ∗ dutyTok ER (xc 1 d (pe d c)) 0 0 ∗ dutyTok ER (xc 2 d c) 0 0 ∗ dutyTok ER (xc 3 d (pe d c)) 0 0)
abbrev crd (k : Fin 4) (c : Dev nD) : sProp 𝕄 :=
  iprop(cred (tallyAt (xc k 0 c) () (xAmt k)) ∗ cred (tallyAt (xc k 1 c) () (xAmt k)) ∗ cred (tallyAt (xc k 2 c) () (xAmt k)))
abbrev zer (k : Fin 4) (c : Dev nD) : sProp 𝕄 := iprop(semVal (xc k 0 c) 0 ∗ semVal (xc k 1 c) 0 ∗ semVal (xc k 2 c) 0)

/-- The protocol's part: positions, what is known reached, the tokens to pay with, the credit to wait with. -/
def opened (c : Dev nD) : sProp 𝕄 :=
  iprop(records m κ ∗ atPos ER (barCell c) 0 ∅ 0 ∗ (pos 0 c ∗ pos 1 c ∗ pos 2 c ∗ pos 3 c) ∗ (rch 0 c ∗ rch 1 c ∗ rch 2 c ∗ rch 3 c)
    ∗ tok 0 c ∗ tok 1 c ∗ tok 2 c)
abbrev waiting (c : Dev nD) : sProp 𝕄 := iprop(cred (tallyAt (barCell c) () 3) ∗ crd 1 c ∗ crd 3 c)
abbrev scratches (c : Dev nD) : sProp 𝕄 :=
  iprop((∃ f : Vec F S2304x1024 .bf16, ((c : Thread nD τ).loc cc0_scratch0) ↦{fullShare} f) ∗ (∃ f : Vec F S2304x1024 .bf16, ((c : Thread nD τ).loc cc0_scratch1) ↦{fullShare} f)
    ∗ (∃ f : Vec F S32x128 .i32, ((c : Thread nD τ).loc cc0_scratch2) ↦{fullShare} f))
abbrev windows (c : Dev nD) (o : Vec F S2048x1024 .f32) : sProp 𝕄 :=
  iprop((((c : Thread nD τ).loc cc0_stg0_0) ↦{fullShare} (xv m c)) ∗ (((c : Thread nD τ).loc cc0_stg1_0) ↦{fullShare} (tv m c))
    ∗ (((c : Thread nD τ).loc cc0_stg2_0) ↦{fullShare} (cnt m c)) ∗ (((c : Thread nD τ).loc cc0_stg3_0) ↦{fullShare} o))

def runPre (c : Dev nD) (W : Waits sig Unit) (o : Vec F S2048x1024 .f32) : sProp 𝕄 :=
  iprop(opened m κ c ∗ waiting c ∗ levAts L lv ∗ owes (c : Thread nD τ) (O₀ c) W ∗ windows m c o ∗ scratches c)
def runPost (c : Dev nD) : sProp 𝕄 :=
  iprop(semVal (barCell c) 0 ∗ (zer 0 c ∗ zer 1 c ∗ zer 2 c ∗ zer 3 c) ∗ (∃ W, owes (c : Thread nD τ) 0 W) ∗ windows m c (out3 m c) ∗ scratches c)

/-! ## The values stored -/

theorem pk1 (c : Dev nD) : k0_pay4 (yw c) (tv m c) (xv m c) = (fun t => packD m c (t - yc c)) (yc (pe 0 c)) := by
  show _ = packD m c (yc (pe 0 c) - yc c); rw [yc_pe_sub]; rfl
theorem pk2 (c : Dev nD) : k0_pay5 (yw c) (k0_pay3 (tv m c)) (xv m c) = (fun t => packD m c (t - yc c)) (yc (pe 1 c)) := by
  show _ = packD m c (yc (pe 1 c) - yc c); rw [yc_pe_sub]; rfl
theorem pk3 (c : Dev nD) : k0_pay7 (k0_pay6 (yw c) (k0_pay3 (tv m c)) (xv m c)) = (fun t => packD m c (t - yc c)) (yc (pe 2 c)) := by
  show _ = packD m c (yc (pe 2 c) - yc c); rw [yc_pe_sub]; rfl
theorem pk0 (c : Dev nD) : k0_pay8 (yw c) (k0_pay3 (tv m c)) (xv m c) = (fun j => packD m (src c j) (yc c - j)) (yc c) := by
  show _ = packD m (src c (yc c)) (yc c - yc c); rw [src_yc, show yc c - yc c = (0 : Fin 4) from Fin.sub_self]; rfl
theorem pkc (c : Dev nD) : k0_pay2 (k0_pay1 (cnt m c)) = (fun j => cnt m (src c j)) (yc c) := by
  show _ = cnt m (src c (yc c)); rw [src_yc]; unfold k0_pay2 k0_pay1
  dsimp only
  rw [shapeCast_self, shapeCast_self]

theorem xAmt0 : xAmt 0 = Nx := by unfold xAmt; rw [if_pos (by decide)]
theorem xAmt1 : xAmt 1 = Nx := by unfold xAmt; rw [if_pos (by decide)]
theorem xAmt3 : xAmt 3 = Nc := by unfold xAmt; rw [if_neg (by decide)]
theorem crS (off inb hs) : ((Memref.whole cc0_scratch0 : Memref sig .tc .vmem S2304x1024 .bf16).slice (sRect off inb) hs).view.dmaCredit = xAmt 0 := by rw [xAmt0]; rfl
theorem crT (off inb hs) : ((Memref.whole cc0_scratch1 : Memref sig .tc .vmem S2304x1024 .bf16).slice (sRect off inb) hs).view.dmaCredit = xAmt 1 := by rw [xAmt1]; rfl
theorem crG (off inb hs) : ((Memref.whole cc0_scratch2 : Memref sig .tc .vmem S32x128 .i32).slice (cRect off inb) hs).view.dmaCredit = xAmt 3 := by rw [xAmt3]; rfl
theorem dp0 (d : Fin 3) (c : Dev nD) : dmaPay m 0 d c = sPt c (yc (pe d c)) (sAll m c) := rfl
theorem dp1 (d : Fin 3) (c : Dev nD) : dmaPay m 1 d c = tPt c (yc (fr d c)) (stgAll m c) := rfl
theorem dp2 (d : Fin 3) (c : Dev nD) : dmaPay m 2 d c = cPt m c (third d) := rfl
theorem dp3 (d : Fin 3) (c : Dev nD) : dmaPay m 3 d c = gPt c (yc (fr d c)) (gAll m c) := rfl
theorem dpt (c : Dev nD) : (tPt c (yc c) (tAssemble fun j => packD m (src c j) (yc c - j)) : sProp 𝕄) = tPt c (yc c) (stgAll m c) := rfl

/-- A load of a landed block. -/
theorem wp_ld_blk (c : Dev nD) {j : Fin 4} {off : Fin 2 → Nat} (h : off = ![576 * j.val, 0]) (inb : ∀ a, off a + S576x1024.size a ≤ S2304x1024.size a)
    {hl : (Memref.whole cc0_scratch1 : Memref sig .tc .vmem S2304x1024 .bf16).view.LoadsAt (sRect off inb).toLoadRect}
    {α : Type} {Q : α → sProp 𝕄} {k : Vec F S576x1024 .bf16 → Prog (TpuEff nD τ sig (Elt F) Λ₀ .tc) α} :
    tPt c j (stgAll m c)
      ⊢ iprop((tPt c j (stgAll m c) -∗ wp frame (wpE (defs₀ (F := F)) 𝒱₀ (c : Thread nD τ) none) Set.univ (k (blk m c j)) Q)
          -∗ wp frame (wpE (defs₀ (F := F)) 𝒱₀ (c : Thread nD τ) none) Set.univ
              (.op (.load (Memref.whole cc0_scratch1 : Memref sig .tc .vmem S2304x1024 .bf16) (sRect off inb).toLoadRect hl) k) Q) := by
  have e := wp_ld_t (F := F) c h inb (stgAll m c) (hl := hl) (Q := Q) (k := k)
  have e' : (Memref.whole cc0_scratch1 : Memref sig .tc .vmem S2304x1024 .bf16).view.readAt (Elt F) (sRect off inb).toLoadRect (stgAll m c) = blk m c j :=
    t_load h inb fun j => packD m (src c j) (yc c - j)
  rw [e'] at e
  exact e

set_option maxHeartbeats 800000 in
theorem run (c : Dev nD) (W : Waits sig Unit) (o : Vec F S2048x1024 .f32) (Kt : PUnit → sProp 𝕄) :
    iprop(runPre m κ c W o ∗ (runPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) Kt := by
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  have h1 := fun (d : Fin 3) (sp : Space) (src : Memref sig .tc sp S576x1024 .bf16) off inb hs e1 e2 α Q K =>
    wp_await (F := F) m κ 1 d c (src := src) (hsrc := e1) (hdst := e2) (α := α) (Q := Q) (K := K) (crT off inb hs)
  have h0 := fun (d : Fin 3) (sp : Space) (src : Memref sig .tc sp S576x1024 .bf16) off inb hs e1 e2 α Q K =>
    wp_await (F := F) m κ 0 d c (src := src) (hsrc := e1) (hdst := e2) (α := α) (Q := Q) (K := K) (crS off inb hs)
  unfold runPre opened O₀
  iintro ⟨⟨⟨#HR, Hab, ⟨⟨Ha00, Ha01, Ha02⟩, ⟨Ha10, Ha11, Ha12⟩, ⟨Ha20, Ha21, Ha22⟩, ⟨Ha30, Ha31, Ha32⟩⟩,
    ⟨⟨#Hr00, #Hr01, #Hr02⟩, ⟨#Hr10, #Hr11, #Hr12⟩, ⟨#Hr20, #Hr21, #Hr22⟩, ⟨#Hr30, #Hr31, #Hr32⟩⟩,
    ⟨Hb0, Ht00, Ht10, Ht20, Ht30⟩, ⟨Hb1, Ht01, Ht11, Ht21, Ht31⟩, ⟨Hb2, Ht02, Ht12, Ht22, Ht32⟩⟩,
    ⟨Hcb, ⟨Hc10, Hc11, Hc12⟩, ⟨Hc30, Hc31, Hc32⟩⟩, #Hlev, HO, ⟨Hx, Htv, Hct, Ho⟩, ⟨⟨%fs, Hs⟩, ⟨%ft, Ht⟩, ⟨%fg, Hg⟩⟩⟩, Hk⟩
  ihave Hs := (Entails.of_eq (s_cut c fs)) $$ Hs
  icases Hs with ⟨Hs, Hs0, Hs1, Hs2⟩
  ihave Ht := (Entails.of_eq (t_cut c ft)) $$ Ht
  icases Ht with ⟨Ht, Ht0, Ht1, Ht2⟩
  ihave Hg := (Entails.of_eq (g_cut c fg)) $$ Hg
  icases Hg with ⟨Hg, Hg0, Hg1, Hg2⟩
  -- the three signals
  iapply (wp_sig m κ 0 c _ (dev1_eq c) (O₁ c + bT 2 c + bT 1 c) W (by decide) fg ft) $$ [HO Hb0 Hg0 Ht0]
  · isplitr; · iexact HR
    isplitl [HO]; · iexact HO
    isplitl [Hb0]; · iexact Hb0
    isplitl [Hg0]; · iexact Hg0
    isplitl [Ht0]; · iexact Ht0
    isplitr; · iexact Hr32
    iexact Hr12
  iintro HO
  iapply (wp_sig m κ 1 c _ (dev2_eq c) (O₁ c + bT 2 c) W (by decide) fg ft) $$ [HO Hb1 Hg1 Ht1]
  · isplitr; · iexact HR
    isplitl [HO]; · iexact HO
    isplitl [Hb1]; · iexact Hb1
    isplitl [Hg1]; · iexact Hg1
    isplitl [Ht1]; · iexact Ht1
    isplitr; · iexact Hr31
    iexact Hr11
  iintro HO
  iapply (wp_sig m κ 2 c _ (dev3_eq c) (O₁ c) W (by decide) fg ft) $$ [HO Hb2 Hg2 Ht2]
  · isplitr; · iexact HR
    isplitl [HO]; · iexact HO
    isplitl [Hb2]; · iexact Hb2
    isplitl [Hg2]; · iexact Hg2
    isplitl [Ht2]; · iexact Ht2
    isplitr; · iexact Hr30
    iexact Hr10
  iintro HO
  iapply (wp_bar m κ c W (by decide)) $$ [Hcb HO Hab]
  · isplitr; · iexact HR
    isplitr; · iexact Hlev
    isplitl [Hcb]; · iexact Hcb
    isplitl [HO]; · iexact HO
    iexact Hab
  iintro ⟨⟨%W1, HO⟩, Hzb, Hp2, Hp1, Hp0⟩
  ihave Hp0 := (Entails.of_eq (barPay_to 0 c)) $$ Hp0
  icases Hp0 with ⟨⟨%g0, Hg0⟩, ⟨%t0, Ht0⟩, #HR30, #HR10⟩
  ihave Hp1 := (Entails.of_eq (barPay_to 1 c)) $$ Hp1
  icases Hp1 with ⟨⟨%g1, Hg1⟩, ⟨%t1, Ht1⟩, #HR31, #HR11⟩
  ihave Hp2 := (Entails.of_eq (barPay_to 2 c)) $$ Hp2
  icases Hp2 with ⟨⟨%g2, Hg2⟩, ⟨%t2, Ht2⟩, #HR32, #HR12⟩
  -- the own counts into their slot
  iapply (wp_ld_c c fullShare (cnt m c)) $$ Hct
  iintro Hct
  iapply (wp_ld_g c (off1_eq c) _ fg) $$ Hg
  iintro Hg
  iapply (wp_st_g c (off1_eq c) _ (fun j => cnt m (src c j)) fg (pkc m c)) $$ Hg
  iintro Hg
  -- the counts to the three peers
  ihave Hct := (cPt_split m c).1 $$ Hct
  icases Hct with ⟨Hct0, Hct1, Hct2⟩
  iapply (wp_send_c m κ 0 c _ (dev4_eq c) (off2_eq c) _ _ (0 + rxT 2 c + rxT 1 c + rxT 0 c + rcT 2 c + rcT 1 c) W1 g0) $$ [Hct0 Hg0 HO Ht20 Ht30]
  · isplitr; · iexact HR
    isplitl [Hct0]; · iexact Hct0
    isplitl [Hg0]; · iexact Hg0
    isplitl [HO]; · iexact HO
    isplitl [Ht20]; · iexact Ht20
    isplitr; · iexact Hr20
    isplitl [Ht30]; · iexact Ht30
    iexact HR30
  iintro ⟨Hc20, HO⟩
  iapply (wp_send_c m κ 1 c _ (dev5_eq c) (off2_eq c) _ _ (0 + rxT 2 c + rxT 1 c + rxT 0 c + rcT 2 c) W1 g1) $$ [Hct1 Hg1 HO Ht21 Ht31]
  · isplitr; · iexact HR
    isplitl [Hct1]; · iexact Hct1
    isplitl [Hg1]; · iexact Hg1
    isplitl [HO]; · iexact HO
    isplitl [Ht21]; · iexact Ht21
    isplitr; · iexact Hr21
    isplitl [Ht31]; · iexact Ht31
    iexact HR31
  iintro ⟨Hc21, HO⟩
  iapply (wp_send_c m κ 2 c _ (dev6_eq c) (off2_eq c) _ _ (0 + rxT 2 c + rxT 1 c + rxT 0 c) W1 g2) $$ [Hct2 Hg2 HO Ht22 Ht32]
  · isplitr; · iexact HR
    isplitl [Hct2]; · iexact Hct2
    isplitl [Hg2]; · iexact Hg2
    isplitl [HO]; · iexact HO
    isplitl [Ht22]; · iexact Ht22
    isplitr; · iexact Hr22
    isplitl [Ht32]; · iexact Ht32
    iexact HR32
  iintro ⟨Hc22, HO⟩
  -- the rows packed and sent, one peer after another
  iapply (wp_ld_tv c fullShare (tv m c)) $$ Htv
  iintro Htv
  iapply (wp_ld_x c fullShare (xv m c)) $$ Hx
  iintro Hx
  iapply (wp_ld_s c (off3_eq c 0) _ fs) $$ Hs0
  iintro Hs0
  iapply (wp_st_s c (off3_eq c 0) _ (fun t => packD m c (t - yc c)) fs (pk1 m c)) $$ Hs0
  iintro Hs0
  iapply (wp_send_x m κ 0 c _ (dev7_eq c) (off5_eq c 0) _ (off4_eq c) _ _ _ (0 + rxT 2 c + rxT 1 c) W1 t0) $$ [Hs0 Ht0 HO Ht00 Ht10]
  · isplitr; · iexact HR
    isplitl [Hs0]; · iexact Hs0
    isplitl [Ht0]; · iexact Ht0
    isplitl [HO]; · iexact HO
    isplitl [Ht00]; · iexact Ht00
    isplitr; · iexact Hr00
    isplitl [Ht10]; · iexact Ht10
    iexact HR10
  iintro ⟨Hc00, HO⟩
  iapply (wp_ld_x c fullShare (xv m c)) $$ Hx
  iintro Hx
  iapply (wp_ld_s c (off3_eq c 1) _ fs) $$ Hs1
  iintro Hs1
  iapply (wp_st_s c (off3_eq c 1) _ (fun t => packD m c (t - yc c)) fs (pk2 m c)) $$ Hs1
  iintro Hs1
  iapply (wp_send_x m κ 1 c _ (dev8_eq c) (off5_eq c 1) _ (off4_eq c) _ _ _ (0 + rxT 2 c) W1 t1) $$ [Hs1 Ht1 HO Ht01 Ht11]
  · isplitr; · iexact HR
    isplitl [Hs1]; · iexact Hs1
    isplitl [Ht1]; · iexact Ht1
    isplitl [HO]; · iexact HO
    isplitl [Ht01]; · iexact Ht01
    isplitr; · iexact Hr01
    isplitl [Ht11]; · iexact Ht11
    iexact HR11
  iintro ⟨Hc01, HO⟩
  iapply (wp_ld_x c fullShare (xv m c)) $$ Hx
  iintro Hx
  iapply (wp_ld_s c (off3_eq c 2) _ fs) $$ Hs2
  iintro Hs2
  iapply (wp_st_s c (off3_eq c 2) _ (fun t => packD m c (t - yc c)) fs (pk3 m c)) $$ Hs2
  iintro Hs2
  iapply (wp_send_x m κ 2 c _ (dev9_eq c) (off5_eq c 2) _ (off4_eq c) _ _ _ (0) W1 t2) $$ [Hs2 Ht2 HO Ht02 Ht12]
  · isplitr; · iexact HR
    isplitl [Hs2]; · iexact Hs2
    isplitl [Ht2]; · iexact Ht2
    isplitl [HO]; · iexact HO
    isplitl [Ht02]; · iexact Ht02
    isplitr; · iexact Hr02
    isplitl [Ht12]; · iexact Ht12
    iexact HR12
  iintro ⟨Hc02, HO⟩
  -- the rows it keeps
  iapply (wp_ld_x c fullShare (xv m c)) $$ Hx
  iintro Hx
  iapply (wp_ld_t c (off6_eq c) _ ft) $$ Ht
  iintro Ht
  iapply (wp_st_t c (off6_eq c) _ (fun j => packD m (src c j) (yc c - j)) ft (pk0 m c)) $$ Ht
  iintro Ht
  ihave Ht := (Entails.of_eq (dpt m c)) $$ Ht
  -- the counts of the three peers
  ihave HO := (show (owes (c : Thread nD τ) 0 W1 : sProp 𝕄) ⊢ iprop(∃ W, owes (c : Thread nD τ) 0 W) from by iintro H; iexists W1; iexact H) $$ HO
  iapply (wp_await m κ 3 0 c (crG _ _ _)) $$ [Hc30 HO Ha30]
  · isplitr; · iexact HR
    isplitl [Hc30]; · iexact Hc30
    isplitl [HO]; · iexact HO
    iexact Ha30
  iintro ⟨HO, Hz30, Hg0⟩
  ihave Hg0 := (Entails.of_eq (dp3 m 0 c)) $$ Hg0
  iapply (wp_await m κ 3 1 c (crG _ _ _)) $$ [Hc31 HO Ha31]
  · isplitr; · iexact HR
    isplitl [Hc31]; · iexact Hc31
    isplitl [HO]; · iexact HO
    iexact Ha31
  iintro ⟨HO, Hz31, Hg1⟩
  ihave Hg1 := (Entails.of_eq (dp3 m 1 c)) $$ Hg1
  iapply (wp_await m κ 3 2 c (crG _ _ _)) $$ [Hc32 HO Ha32]
  · isplitr; · iexact HR
    isplitl [Hc32]; · iexact Hc32
    isplitl [HO]; · iexact HO
    iexact Ha32
  iintro ⟨HO, Hz32, Hg2⟩
  ihave Hg2 := (Entails.of_eq (dp3 m 2 c)) $$ Hg2
  ihave Hg := (Entails.of_eq (g_join c (gAll m c)).symm) $$ [Hg Hg0 Hg1 Hg2]
  · isplitl [Hg]; · iexact Hg
    isplitl [Hg0]; · iexact Hg0
    isplitl [Hg1]; · iexact Hg1
    iexact Hg2
  iapply (wp_ld_gg c fullShare (gAll m c)) $$ Hg
  iintro Hg
  -- the result: the kept rows, then each peer's
  iapply (wp_ld_blk m c (off6_eq c) _) $$ Ht
  iintro Ht
  iapply (wp_ld_o c fullShare o) $$ Ho
  iintro Ho
  iapply (wp_st_o c o (w := out0 m c)) $$ Ho
  iintro Ho
  iapply (h1 0) $$ [Hc10 HO Ha10]
  · isplitr; · iexact HR
    isplitl [Hc10]; · iexact Hc10
    isplitl [HO]; · iexact HO
    iexact Ha10
  iintro ⟨HO, Hz10, Ht0⟩
  ihave Ht0 := (Entails.of_eq (dp1 m 0 c)) $$ Ht0
  iapply (wp_ld_o c fullShare _) $$ Ho
  iintro Ho
  iapply (wp_ld_blk m c (off9_eq c 0) _) $$ Ht0
  iintro Ht0
  iapply (wp_ld_o c fullShare _) $$ Ho
  iintro Ho
  iapply (wp_st_o c (out0 m c) (w := out1 m c)) $$ Ho
  iintro Ho
  iapply (h1 1) $$ [Hc11 HO Ha11]
  · isplitr; · iexact HR
    isplitl [Hc11]; · iexact Hc11
    isplitl [HO]; · iexact HO
    iexact Ha11
  iintro ⟨HO, Hz11, Ht1⟩
  ihave Ht1 := (Entails.of_eq (dp1 m 1 c)) $$ Ht1
  iapply (wp_ld_o c fullShare _) $$ Ho
  iintro Ho
  iapply (wp_ld_blk m c (off9_eq c 1) _) $$ Ht1
  iintro Ht1
  iapply (wp_ld_o c fullShare _) $$ Ho
  iintro Ho
  iapply (wp_st_o c (out1 m c) (w := out2 m c)) $$ Ho
  iintro Ho
  iapply (h1 2) $$ [Hc12 HO Ha12]
  · isplitr; · iexact HR
    isplitl [Hc12]; · iexact Hc12
    isplitl [HO]; · iexact HO
    iexact Ha12
  iintro ⟨HO, Hz12, Ht2⟩
  ihave Ht2 := (Entails.of_eq (dp1 m 2 c)) $$ Ht2
  iapply (wp_ld_o c fullShare _) $$ Ho
  iintro Ho
  iapply (wp_ld_blk m c (off9_eq c 2) _) $$ Ht2
  iintro Ht2
  iapply (wp_ld_o c fullShare _) $$ Ho
  iintro Ho
  iapply (wp_st_o c (out2 m c) (w := out3 m c)) $$ Ho
  iintro Ho
  -- the sends drained
  iapply (wp_await m κ 2 0 c (dst := (Memref.whole cc0_stg2_0 : Memref sig .tc .vmem S8x128 .i32)) rfl) $$ [Hc20 HO Ha20]
  · isplitr; · iexact HR
    isplitl [Hc20]; · iexact Hc20
    isplitl [HO]; · iexact HO
    iexact Ha20
  iintro ⟨HO, Hz20, Hct0⟩
  ihave Hct0 := (Entails.of_eq (dp2 m 0 c)) $$ Hct0
  iapply (wp_await m κ 2 1 c (dst := (Memref.whole cc0_stg2_0 : Memref sig .tc .vmem S8x128 .i32)) rfl) $$ [Hc21 HO Ha21]
  · isplitr; · iexact HR
    isplitl [Hc21]; · iexact Hc21
    isplitl [HO]; · iexact HO
    iexact Ha21
  iintro ⟨HO, Hz21, Hct1⟩
  ihave Hct1 := (Entails.of_eq (dp2 m 1 c)) $$ Hct1
  iapply (wp_await m κ 2 2 c (dst := (Memref.whole cc0_stg2_0 : Memref sig .tc .vmem S8x128 .i32)) rfl) $$ [Hc22 HO Ha22]
  · isplitr; · iexact HR
    isplitl [Hc22]; · iexact Hc22
    isplitl [HO]; · iexact HO
    iexact Ha22
  iintro ⟨HO, Hz22, Hct2⟩
  ihave Hct2 := (Entails.of_eq (dp2 m 2 c)) $$ Hct2
  iapply (h0 0) $$ [Hc00 HO Ha00]
  · isplitr; · iexact HR
    isplitl [Hc00]; · iexact Hc00
    isplitl [HO]; · iexact HO
    iexact Ha00
  iintro ⟨HO, Hz00, Hs0⟩
  ihave Hs0 := (Entails.of_eq (dp0 m 0 c)) $$ Hs0
  iapply (h0 1) $$ [Hc01 HO Ha01]
  · isplitr; · iexact HR
    isplitl [Hc01]; · iexact Hc01
    isplitl [HO]; · iexact HO
    iexact Ha01
  iintro ⟨HO, Hz01, Hs1⟩
  ihave Hs1 := (Entails.of_eq (dp0 m 1 c)) $$ Hs1
  iapply (h0 2) $$ [Hc02 HO Ha02]
  · isplitr; · iexact HR
    isplitl [Hc02]; · iexact Hc02
    isplitl [HO]; · iexact HO
    iexact Ha02
  iintro ⟨HO, Hz02, Hs2⟩
  ihave Hs2 := (Entails.of_eq (dp0 m 2 c)) $$ Hs2
  iapply le_wp_ret
  iapply Hk
  unfold runPost
  isplitl [Hzb]; · iexact Hzb
  isplitl [Hz00 Hz01 Hz02 Hz10 Hz11 Hz12 Hz20 Hz21 Hz22 Hz30 Hz31 Hz32]
  · isplitl [Hz00 Hz01 Hz02]
    · isplitl [Hz00]; · iexact Hz00
      isplitl [Hz01] <;> iassumption
    isplitl [Hz10 Hz11 Hz12]
    · isplitl [Hz10]; · iexact Hz10
      isplitl [Hz11] <;> iassumption
    isplitl [Hz20 Hz21 Hz22]
    · isplitl [Hz20]; · iexact Hz20
      isplitl [Hz21] <;> iassumption
    · isplitl [Hz30]; · iexact Hz30
      isplitl [Hz31] <;> iassumption
  isplitl [HO]; · iexact HO
  isplitl [Hx Htv Hct0 Hct1 Hct2 Ho]
  · isplitl [Hx]; · iexact Hx
    isplitl [Htv]; · iexact Htv
    isplitl [Hct0 Hct1 Hct2]
    · iapply (cPt_split m c).2
      isplitl [Hct0]; · iexact Hct0
      isplitl [Hct1]; · iexact Hct1
      iexact Hct2
    iexact Ho
  isplitl [Hs Hs0 Hs1 Hs2]
  · iapply (s_join c fs (sAll m c))
    isplitl [Hs]; · iexact Hs
    isplitl [Hs0]; · iexact Hs0
    isplitl [Hs1]; · iexact Hs1
    iexact Hs2
  isplitl [Ht Ht0 Ht1 Ht2]
  · iexists (stgAll m c)
    iapply (Entails.of_eq (t_join c (stgAll m c)).symm)
    isplitl [Ht]; · iexact Ht
    isplitl [Ht0]; · iexact Ht0
    isplitl [Ht1]; · iexact Ht1
    iexact Ht2
  iexists (gAll m c); iexact Hg

end Cert.KernelIdeal.A2A

end
-- ==== Proof.Region.lean ====
/- The kernel's call as a region of the program: what it enters with, what it leaves, and the host lines before it. -/
module

public import proofs.«01_k».proof.Proof.Body
public import Idealize.ShloMosaic.Lib.Pipeline.RegionTalk
public import Idealize.ShloMosaic.Lib.Pipeline.ValueKit

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The sixteen transfer semaphores, array by array; the first of each array is never used. -/
def osem (p : Fin 4 × Fin 4) : SemLoc sig := .dma ⟨4 + 4 * p.1.val + p.2.val, by have h : sig.nDmaSem = 20 := rfl; omega⟩

theorem osemFacts : Pipeline.OwnSemFacts spec0 osem := by decide

/-- The unused semaphore of array `k`. -/
abbrev idle (k : Fin 4) (c : Dev nD) : GSem nD τ sig := ((c : Thread nD τ), osem (k, 0))
abbrev own4 (k : Fin 4) (c : Dev nD) : sProp 𝕄 := iprop(semVal (idle k c) 0 ∗ zer k c)
abbrev idles (c : Dev nD) : sProp 𝕄 := iprop(semVal (idle 0 c) 0 ∗ semVal (idle 1 c) 0 ∗ semVal (idle 2 c) 0 ∗ semVal (idle 3 c) 0)

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

theorem osem_succ (k : Fin 4) (d : Fin 3) : osem (k, d.succ) = .dma (semIx k d) := by revert k d; decide

theorem ownSems_eq (c : Dev nD) : (Pipeline.ownSems0 osem c : sProp 𝕄) = iprop(own4 0 c ∗ own4 1 c ∗ own4 2 c ∗ own4 3 c) := by
  unfold Pipeline.ownSems0
  rw [bigSep_univ_prod, bigSep_four]
  have h (k : Fin 4) : bigSep Finset.univ (fun j : Fin 4 => (semVal ((c : Thread nD τ), osem (k, j)) 0 : sProp 𝕄)) = own4 k c := by
    rw [bigSep_four, show (1 : Fin 4) = Fin.succ (0 : Fin 3) from rfl, show (2 : Fin 4) = Fin.succ (1 : Fin 3) from rfl,
      show (3 : Fin 4) = Fin.succ (2 : Fin 3) from rfl, osem_succ, osem_succ, osem_succ]
  rw [h, h, h, h]

/-! ## What the region is entered with and what it leaves -/

/-- The rights to open the cells of array `k`. -/
abbrev opn (k : Fin 4) (c : Dev nD) : sProp 𝕄 := iprop(openTok ER (xc k 0 c) ∗ openTok ER (xc k 1 c) ∗ openTok ER (xc k 2 c))

/-- What one device holds of the protocol from the launch on. -/
def linear (c : Dev nD) : sProp 𝕄 :=
  iprop(atPos ER (barCell c) 0 ∅ 0 ∗ (opn 0 c ∗ opn 1 c ∗ opn 2 c ∗ opn 3 c) ∗ tok 0 c ∗ tok 1 c ∗ tok 2 c)
def Tk (c : Dev nD) : sProp 𝕄 := iprop((∃ κ, records m κ ∗ linear c) ∗ waiting c)
def Xk (c : Dev nD) : sProp 𝕄 := iprop((∃ κ, opened m κ c) ∗ waiting c ∗ levAts L lv ∗ idles c)
def Yk (c : Dev nD) : sProp 𝕄 := semVal (barCell c) 0

/-- The cells of one array opened. -/
theorem open4 (κ : GSem nD τ sig → ℕ) (k : Fin 4) (c : Dev nD) :
    iprop(records m κ ∗ opn k c ∗ zer k c) ⊢ (|={Set.univ}=> iprop(pos k c ∗ rch k c) : sProp 𝕄) := by
  iintro ⟨#HR, ⟨Ho0, Ho1, Ho2⟩, Hz0, Hz1, Hz2⟩
  imod (Rounds.cell_open ER (rd m) (g := xc k 0 c) (Set.mem_univ (κ (xc k 0 c)))) $$ [Ho0 Hz0] with ⟨Ha0, Hr0⟩
  · isplitr; · iapply (inv_at m κ (xc_mem k 0 c)); iexact HR
    isplitl [Ho0] <;> iassumption
  imod (Rounds.cell_open ER (rd m) (g := xc k 1 c) (Set.mem_univ (κ (xc k 1 c)))) $$ [Ho1 Hz1] with ⟨Ha1, Hr1⟩
  · isplitr; · iapply (inv_at m κ (xc_mem k 1 c)); iexact HR
    isplitl [Ho1] <;> iassumption
  imod (Rounds.cell_open ER (rd m) (g := xc k 2 c) (Set.mem_univ (κ (xc k 2 c)))) $$ [Ho2 Hz2] with ⟨Ha2, Hr2⟩
  · isplitr; · iapply (inv_at m κ (xc_mem k 2 c)); iexact HR
    isplitl [Ho2] <;> iassumption
  imodintro
  isplitl [Ha0 Ha1 Ha2]
  · isplitl [Ha0]; · iexact Ha0
    isplitl [Ha1] <;> iassumption
  isplitl [Hr0]; · iexact Hr0
  isplitl [Hr1] <;> iassumption

theorem hopen (c : Dev nD) : iprop(Tk m c ∗ Pipeline.ownSems0 osem c ∗ levAts L lv) ⊢ (|={Set.univ}=> Xk m c : sProp 𝕄) := by
  rw [ownSems_eq]
  unfold Tk Xk linear
  iintro ⟨⟨⟨%κ, #HR, Hat, ⟨Ho0, Ho1, Ho2, Ho3⟩, Ht⟩, Hw⟩, ⟨⟨Hi0, Hz0⟩, ⟨Hi1, Hz1⟩, ⟨Hi2, Hz2⟩, Hi3, Hz3⟩, #Hlev⟩
  imod (open4 m κ 0 c) $$ [Ho0 Hz0] with ⟨Hp0, Hr0⟩
  · isplitr; · iexact HR
    isplitl [Ho0] <;> iassumption
  imod (open4 m κ 1 c) $$ [Ho1 Hz1] with ⟨Hp1, Hr1⟩
  · isplitr; · iexact HR
    isplitl [Ho1] <;> iassumption
  imod (open4 m κ 2 c) $$ [Ho2 Hz2] with ⟨Hp2, Hr2⟩
  · isplitr; · iexact HR
    isplitl [Ho2] <;> iassumption
  imod (open4 m κ 3 c) $$ [Ho3 Hz3] with ⟨Hp3, Hr3⟩
  · isplitr; · iexact HR
    isplitl [Ho3] <;> iassumption
  imodintro
  isplitl [Hat Hp0 Hp1 Hp2 Hp3 Hr0 Hr1 Hr2 Hr3 Ht]
  · iexists κ; unfold opened
    isplitr; · iexact HR
    isplitl [Hat]; · iexact Hat
    isplitl [Hp0 Hp1 Hp2 Hp3]
    · isplitl [Hp0]; · iexact Hp0
      isplitl [Hp1]; · iexact Hp1
      isplitl [Hp2] <;> iassumption
    isplitl [Hr0 Hr1 Hr2 Hr3]
    · isplitl [Hr0]; · iexact Hr0
      isplitl [Hr1]; · iexact Hr1
      isplitl [Hr2] <;> iassumption
    iexact Ht
  isplitl [Hw]; · iexact Hw
  isplitr; · iexact Hlev
  isplitl [Hi0]; · iexact Hi0
  isplitl [Hi1]; · iexact Hi1
  isplitl [Hi2] <;> iassumption

/-! ## The region's data -/

def ΦIn (c : Dev nD) : sProp 𝕄 := iprop(Xk m c ∗ scratches c ∗ ∃ r, prngReg c r)
def ΦOut (c : Dev nD) : sProp 𝕄 := iprop(Yk c ∗ (idles c ∗ zer 0 c ∗ zer 1 c ∗ zer 2 c ∗ zer 3 c) ∗ scratches c ∗ ∃ r, prngReg c r)

def dat (c : Dev nD) : Dat τ (Elt F) Unit ℕ UU ℕ cfg0 c where
  A w := V₄ m c (Proc.devRef .tc (Pipeline.arrRef spec0 w))
  after w _ := match w with
    | ⟨0, _⟩ => xv m c
    | ⟨1, _⟩ => tv m c
    | ⟨2, _⟩ => cnt m c
    | ⟨3, _⟩ => out3 m c
  Φ t := if t.val = 0 then ΦIn m c else ΦOut c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem Φ_first (c : Dev nD) : (dat m c).Φ t0_0.castSucc = ΦIn m c := by
  show (if (t0_0.castSucc : Fin (cfg0.N + 1)).val = 0 then ΦIn m c else ΦOut c) = _; exact if_pos rfl
theorem Φ_last (c : Dev nD) : (dat m c).Φ (Fin.last _) = ΦOut c := by
  show (if (Fin.last cfg0.N).val = 0 then ΦIn m c else ΦOut c) = _
  rw [Fin.val_last, if_neg (by rw [show cfg0.N = 1 from N_0]; decide)]
theorem Φ_succ (c : Dev nD) : (dat m c).Φ t0_0.succ = ΦOut c := by
  show (if (t0_0.succ : Fin (cfg0.N + 1)).val = 0 then ΦIn m c else ΦOut c) = _
  exact if_neg (by rw [Fin.val_succ]; exact Nat.succ_ne_zero _)
theorem owed_zero (c : Dev nD) : (dat m c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_succ (c : Dev nD) : (dat m c).owed t0_0.succ = 0 := by
  show (if (t0_0.succ : Fin (cfg0.N + 1)).val = 0 then O₀ c else 0) = _
  exact if_neg (by rw [Fin.val_succ]; exact Nat.succ_ne_zero _)
theorem owed_last (c : Dev nD) : (dat m c).owed (Fin.last _) = 0 := by
  show (if (Fin.last cfg0.N).val = 0 then O₀ c else 0) = 0
  rw [Fin.val_last, if_neg (by rw [show cfg0.N = 1 from N_0]; decide)]

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem emb_0 (x : S2048x1024.Idx) : ((cfg0.win 0).blk t0_0).view.emb x = x := funext fun a => Fin.ext (by
  fin_cases a <;> blk_simp <;> first | exact Nat.zero_add _ | rfl)
theorem emb_1 (x : S1x2048.Idx) : ((cfg0.win 1).blk t0_0).view.emb x = x := funext fun a => Fin.ext (by
  fin_cases a <;> blk_simp <;> first | exact Nat.zero_add _ | rfl)
theorem emb_2 (x : S8x128.Idx) : ((cfg0.win 2).blk t0_0).view.emb x = x := funext fun a => Fin.ext (by
  fin_cases a <;> blk_simp <;> first | exact Nat.zero_add _ | rfl)

theorem before_0 (c : Dev nD) (d) : (dat m c).before (0 : Fin 4) t0_0 d = xv m c := by
  unfold Dat.before; rw [if_pos (fetch0_0 t0_0)]
  have e : (dat m c).fetched (0 : Fin 4) t0_0 d = fun x => xv m c (((cfg0.win 0).blk t0_0).view.emb x) := rfl
  rw [e]; funext x; rw [emb_0]
theorem before_1 (c : Dev nD) (d) : (dat m c).before (1 : Fin 4) t0_0 d = tv m c := by
  unfold Dat.before; rw [if_pos (fetch0_1 t0_0)]
  have e : (dat m c).fetched (1 : Fin 4) t0_0 d = fun x => tv m c (((cfg0.win 1).blk t0_0).view.emb x) := rfl
  rw [e]; funext x; rw [emb_1]
theorem before_2 (c : Dev nD) (d) : (dat m c).before (2 : Fin 4) t0_0 d = cnt m c := by
  unfold Dat.before; rw [if_pos (fetch0_2 t0_0)]
  have e : (dat m c).fetched (2 : Fin 4) t0_0 d = fun x => cnt m c (((cfg0.win 2).blk t0_0).view.emb x) := rfl
  rw [e]; funext x; rw [emb_2]

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

def bodyPre (c : Dev nD) : sProp 𝕄 :=
  iprop(ΦIn m c ∗ (dat m c).owesAt () t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
def bodyPost (c : Dev nD) : sProp 𝕄 :=
  iprop(ΦOut c ∗ (dat m c).owesAt () t0_0.succ
    ∗ stg c cc0_stg0_0 (xv m c) ∗ stg c cc0_stg1_0 (tv m c) ∗ stg c cc0_stg2_0 (cnt m c) ∗ stg c cc0_stg3_0 (out3 m c))

theorem body_wp (c : Dev nD) : bodyPre m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) (fun _ => bodyPost m c) := by
  unfold bodyPre bodyPost ΦIn ΦOut Xk Yk
  iintro ⟨⟨⟨⟨%κ, Hop⟩, Hw, #Hlev, Hid⟩, Hs, Hreg⟩, HO, ⟨%d0, %g0, %hg0, H0⟩, ⟨%d1, %g1, %hg1, H1⟩, ⟨%d2, %g2, %hg2, H2⟩, ⟨%d3, %g3, %hg3, H3⟩⟩
  rw [before_0] at hg0; rw [before_1] at hg1; rw [before_2] at hg2
  subst hg0 hg1 hg2
  ihave HO' := (owesAt_elim m c _ (O₀ c) (owed_first m c)) $$ HO
  icases HO' with ⟨%W, HO⟩
  iapply (run m κ c W g3 _)
  isplitl [Hop Hw Hs HO H0 H1 H2 H3]
  · unfold runPre
    isplitl [Hop]; · iexact Hop
    isplitl [Hw]; · iexact Hw
    isplitr; · iexact Hlev
    isplitl [HO]; · iexact HO
    isplitr [Hs]
    · isplitl [H0]; · iexact H0
      isplitl [H1]; · iexact H1
      isplitl [H2] <;> iassumption
    iexact Hs
  unfold runPost
  iintro ⟨Hb, Hz, ⟨%W', HO⟩, ⟨H0, H1, H2, H3⟩, Hs⟩
  isplitl [Hb Hz Hs Hid Hreg]
  · isplitl [Hb]; · iexact Hb
    isplitl [Hz Hid]
    · isplitl [Hid]; · iexact Hid
      iexact Hz
    isplitl [Hs]; · iexact Hs
    iexact Hreg
  isplitl [HO]; · iapply (owesAt_intro m c t0_0.succ 0 (owed_succ m c) W'); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_obligation (c : Dev nD) : BodyObligation (dat m c) (defs₀ (F := F)) 𝒱₀ () Set.univ := fun t => by
  obtain rfl := fin_N0 t
  rw [bigSep_W0, bigSep_W0, Φ_first, Φ_succ]
  simp only [owns_whole_eq]
  exact body_wp m c

/-! ## The region -/

/-- A device's buffers when the program ends. -/
abbrev V₅ (c : Dev nD) : Valuation τ sig (Elt F) := Function.update (V₄ m c) (Proc.devRef .tc main_v19) (out3 m c)

abbrev bufs : Finset (DevRef τ sig) := Pipeline.ucRefs τ sig
abbrev arrs : Finset (DevRef τ sig) := Pipeline.arrRefs (τ := τ) (pcfgs (F := F) 0).spec

theorem arr_out (c : Dev nD) : (dat m c).arrAt (3 : Fin 4) cfg0.N = out3 m c :=
  (dat m c).arrAt_eq_of_after_last (3 : Fin 4) t0_0 (by decide +kernel) _ fun j => rfl

theorem V₅_of_ne (c : Dev nD) {b : DevRef τ sig} (h : b ≠ Proc.devRef .tc main_v19) : V₅ m c b = V₄ m c b := Function.update_of_ne h ..

theorem V₅_at (c : Dev nD) (w : Fin 4) : (dat m c).arrAt w cfg0.N = V₅ m c (Proc.devRef .tc (Pipeline.arrRef spec0 w)) := by
  fin_cases w
  · exact ((dat m c).arrAt_in (0 : Fin 4) rfl _).trans (V₅_of_ne m c (b := Proc.devRef .tc main_arg0) (by decide)).symm
  · exact ((dat m c).arrAt_in (1 : Fin 4) rfl _).trans (V₅_of_ne m c (b := Proc.devRef .tc main_v15) (by decide)).symm
  · exact ((dat m c).arrAt_in (2 : Fin 4) rfl _).trans (V₅_of_ne m c (b := Proc.devRef .tc main_v18) (by decide)).symm
  · exact (arr_out m c).trans (Function.update_self (Proc.devRef .tc main_v19) (out3 m c) (V₄ m c)).symm

theorem out_mem : (Proc.devRef .tc main_v19 : DevRef τ sig) ∈ (arrs (F := F)) := by
  show _ ∈ Pipeline.arrRefs (τ := τ) spec0
  decide

theorem hrest (c : Dev nD) : ∀ b ∈ (bufs \ arrs (F := F)) \ ∅, V₅ m c b = V₄ m c b := fun b hb =>
  V₅_of_ne m c fun h => (Finset.mem_sdiff.mp (Finset.mem_sdiff.mp hb).1).2 (by rw [h]; exact out_mem)

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₄ m c) ∗ Xk m c)
    ⊢ (pdats m 0 c).Φ 0 := by
  rw [show (pdats m 0 c).Φ 0 = ΦIn m c from Φ_first m c, held_none]
  rw [show (Pipeline.scopedRest (Pipeline.pin (pcfgs (F := F)) adm 0).spec c : sProp 𝕄) = scratches c from scopedRest0_eq c]
  unfold ΦIn
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₅ m c) ∗ Pipeline.ownSems0 osem c ∗ Yk c) := by
  rw [show (pdats m 0 c).Φ (Fin.last _) = ΦOut c from Φ_last m c, held_none, ownSems_eq]
  rw [show (Pipeline.scopedRest (Pipeline.pin (pcfgs (F := F)) adm 0).spec c : sProp 𝕄) = scratches c from scopedRest0_eq c]
  unfold ΦOut
  iintro ⟨HY, ⟨⟨Hi0, Hi1, Hi2, Hi3⟩, Hz0, Hz1, Hz2, Hz3⟩, Hs, Hp⟩
  isplitl [Hs]; · iexact Hs
  isplitl [Hp]; · iexact Hp
  isplitr; · iempintro
  isplitr [HY]
  · isplitl [Hi0 Hz0]; · isplitl [Hi0] <;> iassumption
    isplitl [Hi1 Hz1]; · isplitl [Hi1] <;> iassumption
    isplitl [Hi2 Hz2]; · isplitl [Hi2] <;> iassumption
    isplitl [Hi3] <;> iassumption
  iexact HY

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem stage_mem (c : Dev nD) (w : Fin 4) (s : Fin (spec0 w).nbuf) : () ∈ L ((c.tc : Thread nD τ), .dma ((spec0 w).sem s)) := by
  rw [L_tc]; exact Finset.mem_singleton_self _

theorem stage_lv (c : Dev nD) (w : Fin 4) (s : Fin (spec0 w).nbuf) : lv ((c.tc : Thread nD τ), .dma ((spec0 w).sem s)) () ≤ 0 := by
  fin_cases w <;> fin_cases s <;> exact le_of_eq rfl

theorem share_full (c : Dev nD) (w : Fin 4) : (dat m c).share w = fullShare := by unfold Dat.share; split <;> rfl

set_option backward.isDefEq.respectTransparency.types false in
/-- The kernel as a stretch of the program. -/
def reg : Pipeline.RegionSeg (pcfgs (F := F)) adm (pdats m) () defs₀ 𝒱₀ L lv (0 : Fin 1) :=
  Pipeline.RegionSeg.ofTalk (pcfgs (F := F)) adm (pdats m) () defs₀ 𝒱₀ L lv (0 : Fin 1) osem osemFacts ∅ (bufs \ arrs (F := F)) (Finset.empty_subset _)
    launch0.toP rfl (fun c => (body_obligation m c).loose) (fun _ => 0) O₀
    (fun c => (owed_zero m c).trans (zero_add _).symm) (owed_last m) (fun _ => rfl) (fun c w => share_full m c w) (V₄ m) (V₅ m) (hrest m)
    (Tk m) Yk (Xk m) Yk (hopen m) (hin m) (hout m) (fun c => by iintro H; imodintro; iexact H) (fun _ => 0)
    ⟨stage_mem, stage_lv, cutD m⟩ (fun _ => BI.emp) (fun c w => rfl) (V₅_at m)

end Cert.KernelIdeal.A2A

end
-- ==== Proof.Launch.lean ====
/- The launch: what each device starts with, and the run of the whole program. -/
module

public import proofs.«01_k».proof.Proof.Region

@[expose] public section

noncomputable section

namespace Cert.KernelIdeal.A2A

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The program in stretches -/

/-- What a device carries beside its buffers until the kernel is called. -/
def R (c : Dev nD) : sProp 𝕄 := iprop(Tk m c ∗ (∃ r, prngReg c r) ∗ ∃ W, owes (c : Thread nD τ) (O₀ c) W)

section Host

variable (ops : List (HloOp τ sig (Elt F)))

theorem ops_sub (h : ops.Forall fun op => op.bufs ⊆ StableHlo.tcRefs τ sig) : ∀ op ∈ ops, op.bufs ⊆ bufs := fun op ho =>
  Pipeline.sub_ucRefs op (List.forall_iff_forall_mem.mp h op ho)
theorem ops_fresh (h : ops.Forall fun op => op.fresh = ∅) : ∀ op ∈ ops, op.fresh = ∅ := List.forall_iff_forall_mem.mp h

end Host

abbrev ℍ := Pipeline.HostSeg (Name := ℕ) (U := UU) (pcfgs (F := F)) defs₀ 𝒱₀ L lv
def seg0 : ℍ (F := F) := Pipeline.HostSeg.ofOps _ _ _ _ _ bufs hostOps0 (ops_sub _ hostOps0_sub) (ops_fresh _ hostOps0_fresh) (V₀ m) (R m)
def seg1 : ℍ (F := F) := Pipeline.HostSeg.ofOps _ _ _ _ _ bufs hostOps0_1 (ops_sub _ hostOps0_1_sub) (ops_fresh _ hostOps0_1_fresh) (V₁ m) (R m)
def seg2 : ℍ (F := F) := Pipeline.HostSeg.ofOps _ _ _ _ _ bufs hostOps0_2 (ops_sub _ hostOps0_2_sub) (ops_fresh _ hostOps0_2_fresh) (V₂ m) (R m)
def seg3 : ℍ (F := F) := Pipeline.HostSeg.ofOps _ _ _ _ _ bufs hostOps0_3 (ops_sub _ hostOps0_3_sub) (ops_fresh _ hostOps0_3_fresh) (V₃ m) (R m)

def segs : List (Pipeline.Seg (pcfgs (F := F)) adm (pdats m) () defs₀ 𝒱₀ L lv) :=
  [.host (seg0 m), .host (seg1 m), .host (seg2 m), .host (seg3 m), .region (reg m)]

theorem main_eq (c : Dev nD) : main (F := F) c = Pipeline.Seg.run (segs m) := by
  rw [main_chain, Pipeline.Seg.run_eq_chain]; rfl

theorem arrs_sub : arrs (F := F) ⊆ bufs := Pipeline.arrRefs_sub_ucRefs spec0 (by decide)

theorem reg_pre (c : Dev nD) : iprop(StableHlo.held (c : Thread nD τ) bufs (V₄ m c) ∗ R m c) ⊢ (reg m).pre c := by
  show _ ⊢ iprop(StableHlo.held (c.tc : Thread nD τ) (arrs (F := F)) (V₄ m c) ∗ (∃ r, prngReg c r)
    ∗ (StableHlo.held (c.tc : Thread nD τ) (bufs \ arrs (F := F)) (V₄ m c) ∗ emp) ∗ Tk m c ∗ ∃ Wd, owes (c : Thread nD τ) (0 + O₀ c) Wd)
  rw [StableHlo.held_sub_split (c.tc : Thread nD τ) (arrs_sub (F := F)), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) bufs (V₅ m c) ∗ semVal (barCell c) 0) ∗ ∃ W, owes (c : Thread nD τ) (0 : CellTallies nD τ sig Unit) W) := by
  show iprop(StableHlo.held (c.tc : Thread nD τ) (arrs (F := F)) (V₅ m c) ∗ (∃ r, prngReg c r)
    ∗ (StableHlo.held (c.tc : Thread nD τ) (bufs \ arrs (F := F)) (V₅ m c) ∗ emp) ∗ Yk c ∗ ∃ Wd, owes (c : Thread nD τ) (0 : CellTallies nD τ sig Unit) Wd) ⊢ _
  rw [StableHlo.held_sub_split (c.tc : Thread nD τ) (arrs_sub (F := F)) (V₅ m c)]
  unfold Yk
  iintro ⟨Ha, -, ⟨Hr, -⟩, Hb, HO⟩
  isplitr [HO]
  · isplitr [Hb]
    · isplitl [Ha] <;> iassumption
    iexact Hb
  iexact HO

/-! ## The duties' tokens -/

abbrev tsem (p : Fin 3 × Fin 5) : SemLoc sig := match p.2 with
  | 0 => .reg barrier0 | 1 => .dma (semIx 0 p.1) | 2 => .dma (semIx 1 p.1) | 3 => .dma (semIx 2 p.1) | 4 => .dma (semIx 3 p.1)
abbrev tduty (p : Fin 3 × Fin 5) : Fin 3 := match p.2 with
  | 0 => p.1 | 1 => 0 | 2 => 0 | 3 => 0 | 4 => 0
theorem tk_inj : Function.Injective (fun p : Fin 3 × Fin 5 => (tsem p, tduty p)) := by decide
def talkToks : Finset (GSem nD τ sig × ℕ × Fin 3) :=
  Finset.univ.map ⟨fun q : Dev nD × (Fin 3 × Fin 5) => (((q.1 : Thread nD τ), tsem q.2), 0, tduty q.2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

/-- The tokens of the duties that pay a device's own cells. -/
abbrev paid (d : Fin 3) (c : Dev nD) : sProp 𝕄 :=
  iprop(dutyTok ER (barCell c) 0 d ∗ dutyTok ER (xc 0 d c) 0 0 ∗ dutyTok ER (xc 1 d c) 0 0 ∗ dutyTok ER (xc 2 d c) 0 0 ∗ dutyTok ER (xc 3 d c) 0 0)

theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem toks_eq : bigSep talkToks (fun x => (dutyTok ER x.1 x.2.1 x.2.2 : sProp 𝕄)) = bigSep Finset.univ fun c : Dev nD => iprop(paid 0 c ∗ paid 1 c ∗ paid 2 c) := by
  unfold talkToks; rw [bigSep_map, bigSep_univ_prod]
  refine bigSep_congr fun c _ => ?_
  rw [bigSep_univ_prod, bigSep_three, bigSep_five, bigSep_five, bigSep_five]; rfl

/-- Every token handed to the device whose duty it is. -/
theorem tok_around (d : Fin 3) : (bigSep Finset.univ fun c : Dev nD => (paid d c : sProp 𝕄)) = bigSep Finset.univ fun c : Dev nD => tok d c := by
  unfold paid tok
  rw [bigSep_sep', bigSep_sep', bigSep_sep', bigSep_sep', bigSep_sep', bigSep_sep', bigSep_sep', bigSep_sep',
    bigSep_univ_equiv (ring d) (fun c : Dev nD => (dutyTok ER (barCell c) 0 d : sProp 𝕄)),
    bigSep_univ_equiv (ring d) (fun c : Dev nD => (dutyTok ER (xc 1 d c) 0 0 : sProp 𝕄)),
    bigSep_univ_equiv (ring d) (fun c : Dev nD => (dutyTok ER (xc 3 d c) 0 0 : sProp 𝕄))]
  rfl

theorem toks_around : (bigSep Finset.univ fun c : Dev nD => (iprop(paid 0 c ∗ paid 1 c ∗ paid 2 c) : sProp 𝕄))
    = bigSep Finset.univ fun c : Dev nD => iprop(tok 0 c ∗ tok 1 c ∗ tok 2 c) := by
  have e (A B C : Dev nD → sProp 𝕄) : bigSep Finset.univ (fun c => iprop(A c ∗ B c ∗ C c)) = iprop(bigSep Finset.univ A ∗ bigSep Finset.univ B ∗ bigSep Finset.univ C) := by
    rw [bigSep_sep', bigSep_sep']
  refine (e (paid 0) (paid 1) (paid 2)).trans (Eq.trans ?_ (e (tok 0) (tok 1) (tok 2)).symm)
  rw [show bigSep Finset.univ (paid 0) = bigSep Finset.univ (tok 0) from tok_around (F := F) 0, show bigSep Finset.univ (paid 1) = bigSep Finset.univ (tok 1) from tok_around (F := F) 1,
    show bigSep Finset.univ (paid 2) = bigSep Finset.univ (tok 2) from tok_around (F := F) 2]

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact dma_ne_bar _ (congrArg Prod.snd h)

/-! ## The launch credit -/

/-- What all devices owe one device's cells is what it waits for. -/
theorem creds (c : Dev nD) : (Pipeline.launchCred O₀ c : sProp 𝕄) ⊢ waiting c := by
  have e : (O₀ : Dev nD → CellTallies nD τ sig Unit)
      = fun d => 0 + rxT 2 d + rxT 1 d + rxT 0 d + rcT 2 d + rcT 1 d + rcT 0 d + bT 2 d + bT 1 d + bT 0 d := funext fun d => rfl
  have hx (d : Fin 3) : (Pipeline.launchCred (rxT d) c : sProp 𝕄) ⊢ cred (tallyAt (xc 1 d c) () Nx) :=
    Pipeline.launchCred_tallyAt (.dma (semIx 1 d)) (pe d) (fr d) (pe_fr d) (fr_pe d) () Nx c
  have hc (d : Fin 3) : (Pipeline.launchCred (rcT d) c : sProp 𝕄) ⊢ cred (tallyAt (xc 3 d c) () Nc) :=
    Pipeline.launchCred_tallyAt (.dma (semIx 3 d)) (pe d) (fr d) (pe_fr d) (fr_pe d) () Nc c
  have hb (d : Fin 3) : (Pipeline.launchCred (bT d) c : sProp 𝕄) ⊢ cred (tallyAt (barCell c) () 1) :=
    Pipeline.launchCred_tallyAt (.reg barrier0) (pe d) (fr d) (pe_fr d) (fr_pe d) () 1 c
  have h3 : iprop(cred (tallyAt (barCell c) () 1) ∗ cred (tallyAt (barCell c) () 1) ∗ cred (tallyAt (barCell c) () 1)) ⊢ (cred (tallyAt (barCell c) () 3) : sProp 𝕄) := by
    have e3 : (tallyAt (barCell c) () 3 : CellTallies nD τ sig Unit) = tallyAt (barCell c) () 1 + (tallyAt (barCell c) () 1 + tallyAt (barCell c) () 1) := by
      rw [tallyAt_add, tallyAt_add]
    rw [e3]
    exact (sep_mono_right (cred_add _ _).2).trans (cred_add _ _).2
  rw [e]
  rw [Pipeline.launchCred_add, Pipeline.launchCred_add, Pipeline.launchCred_add, Pipeline.launchCred_add, Pipeline.launchCred_add,
    Pipeline.launchCred_add, Pipeline.launchCred_add, Pipeline.launchCred_add, Pipeline.launchCred_add]
  iintro ⟨⟨⟨⟨⟨⟨⟨⟨⟨-, X2⟩, X1⟩, X0⟩, C2⟩, C1⟩, C0⟩, B2⟩, B1⟩, B0⟩
  isplitl [B2 B1 B0]
  · iapply h3
    isplitl [B0]; · iapply (hb 0) $$ B0
    isplitl [B1]; · iapply (hb 1) $$ B1
    iapply (hb 2) $$ B2
  isplitl [X2 X1 X0]
  · isplitl [X0]; · iapply (hx 0) $$ X0
    isplitl [X1]; · iapply (hx 1) $$ X1
    iapply (hx 2) $$ X2
  · isplitl [C0]; · iapply (hc 0) $$ C0
    isplitl [C1]; · iapply (hc 1) $$ C1
    iapply (hc 2) $$ C2

/-! ## What each device starts and ends with -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unscoped_eq : ∀ sm : SemLoc sig, sm.isScoped .tc = false → sm = .reg barrier0 := by decide

/-- The launch element: the staging cells' part, and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

def parked : sProp 𝕄 := BI.own (ER (launchOf barCells scCells talkToks))
/-- The protocol's part is kept on the first device until it is dealt. -/
def G (c : Dev nD) : sProp 𝕄 := if c = 0 then parked else iprop(emp)
theorem bigSep_G : bigSep Finset.univ (G (F := F)) = parked := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₅ m c) ∗ semVal (barCell c) 0)

/-- What a device holds at launch beside the protocol's part. -/
def bundle (c : Dev nD) : sProp 𝕄 :=
  iprop(StableHlo.held (c : Thread nD τ) bufs (V₀ m c) ∗ waiting c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold T₀ bundle R Tk
  iintro ⟨#HR, Hl, Hh, Hw, HO, Hp⟩
  isplitl [Hh]; · iexact Hh
  isplitl [Hl Hw]
  · isplitl [Hl]
    · iexists κ
      isplitr; · iexact HR
      iexact Hl
    iexact Hw
  isplitl [Hp]; · iexact Hp
  iexists ∅; iexact HO

theorem open_eq : bigSep scCells (fun g => (openTok ER g : sProp 𝕄))
    = bigSep Finset.univ (fun c : Dev nD => iprop(opn 0 c ∗ opn 1 c ∗ opn 2 c ∗ opn 3 c)) := by
  rw [bigSep_map, bigSep_univ_prod]
  refine bigSep_congr fun c _ => ?_
  rw [bigSep_univ_prod, bigSep_four, bigSep_three, bigSep_three, bigSep_three, bigSep_three]; rfl

theorem core_start (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c : Thread nD τ) bufs (V₀ m c) from Pipeline.unscopedBufs_held c (V₀ m c),
    unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_start m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells talkToks)) from
    Entails.of_eq bigSep_G) $$ HG
  imod (Rounds.fund_launch ER (rd m) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply (Entails.of_eq open_eq) $$ Hopen
    iapply (Entails.of_eq (toks_around (F := F)))
    iapply (Entails.of_eq (toks_eq (F := F))) $$ Htok
  · iexact HB

/-! ## The run -/

abbrev ends3 : Finset (DevRef τ sig) := {Proc.devRef .tc main_arg0, Proc.devRef .tc main_arg1, Proc.devRef .tc main_v19}

theorem held_ends (c : Dev nD) : (StableHlo.held (c.tc : Thread nD τ) bufs (V₅ m c) : sProp 𝕄)
    ⊢ iprop(((c : Thread nD τ).loc main_arg0 ↦{fullShare} V₅ m c main_arg0) ∗ ((c : Thread nD τ).loc main_arg1 ↦{fullShare} V₅ m c main_arg1)
        ∗ ((c : Thread nD τ).loc main_v19 ↦{fullShare} V₅ m c main_v19)) := by
  rw [StableHlo.held_sub_split (c.tc : Thread nD τ) (T := ends3) (by decide)]
  refine (BI.sep_and.trans BI.and_elimL).trans ?_
  unfold StableHlo.held
  rw [bigSep_insert (by decide), bigSep_insert (by decide), bigSep_singleton]
  exact BI.Entails.refl _

theorem V₅_arg0 (c : Dev nD) : V₅ m c main_arg0 = m ((c : Thread nD τ).loc main_arg0) :=
  (V₅_of_ne m c (b := Proc.devRef .tc main_arg0) (by decide)).trans ((V₄_eq m c main_arg0).trans (V_main_arg0 m c))
theorem V₅_arg1 (c : Dev nD) : V₅ m c main_arg1 = m ((c : Thread nD τ).loc main_arg1) :=
  (V₅_of_ne m c (b := Proc.devRef .tc main_arg1) (by decide)).trans ((V₄_eq m c main_arg1).trans (V_main_arg1 m c))
theorem V₅_out (c : Dev nD) : V₅ m c main_v19 = out3 m c := Function.update_self (Proc.devRef .tc main_v19) (out3 m c) (V₄ m c)

set_option backward.isDefEq.respectTransparency.types false in
/-- Every fair execution ends, with the arguments as they were, the result as computed, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v19) = out3 m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; unfold parked; iexact HX)
    (T₀ := T₀ m) (Tₙ := Tₙ m)
    (hch := ⟨fun c => .rfl, fun c => .rfl, fun c => .rfl, fun c => .rfl, fun c => reg_pre m c, fun c => reg_post m c⟩)
    (hinit := init m ρ)
    (QY := fun c s => (s.mem ((c : Thread nD τ).loc main_arg0) = V₅ m c main_arg0 ∧ s.mem ((c : Thread nD τ).loc main_arg1) = V₅ m c main_arg1
      ∧ s.mem ((c : Thread nD τ).loc main_v19) = V₅ m c main_v19) ∧ s.sem (barCell c) = 0)
    (hfin := fun c s' => by
      dsimp only [Tₙ]
      iintro ⟨⟨Hh, Hb0⟩, HSI⟩
      ihave H := (held_ends m c) $$ Hh
      icases H with ⟨Hx, Hy, Hz⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hx.trans (V₅_arg0 m c), hy.trans (V₅_arg1 m c), hz.trans (V₅_out m c)⟩,
      sem_eq_zero hs fun c sm hsm => by
        obtain rfl := unscoped_eq sm hsm
        exact (h c).2⟩)

end Cert.KernelIdeal.A2A

end
-- ==== Proof.Frames.lean ====
/- The frames: every program runs, leaves its arguments as they were, and ends with every counter at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The two programs' body tables are one table: the only label runs the same text. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ)) ?_
  funext l a
  match l, a with
  | 0, (t, s) => rfl

theorem defs_eq : Cert.Kernel.defs (F := Bits) = Cert.KernelIdeal.defs (F := Bits) := by
  unfold Cert.Kernel.defs Cert.KernelIdeal.defs
  exact congrArg _ defs₀_eq

/-- The kernel as run on the machine's own numbers: its text is the idealized program's. -/
theorem frame_kernel : Cert.quiescent_Kernel (hKernel := Cert.Kernel.Gen.facts) := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run (Cert.KernelIdeal.defs (F := Bits)) _ _).mono (fun _ h => ⟨fun c => ⟨(h.1 c).1, (h.1 c).2.1⟩, h.2⟩) (Cert.KernelIdeal.A2A.run_main (F := Bits) m ρ)
  rw [← defs_eq] at h
  exact h

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.A2A.run_main (F := Ideal) m ρ)

theorem frame_ref : Cert.quiescent_ReferenceIdeal (hReferenceIdeal := Cert.ReferenceIdeal.Gen.facts) := fun m ρ _ =>
  (θ_run (Cert.ReferenceIdeal.defs (F := Ideal)) _ _).mono (fun r h => ⟨fun c => ⟨(h c).2.1, (h c).2.2⟩, sem_eq_zero_of_no_sems (by decide) r.2⟩)
    (Cert.ReferenceIdeal.Value.run (F := Ideal) m ρ)

end Cert.Proof

end
-- ==== Proof.Words.lean ====
/- Counts held in 32-bit words: one-hot words, their sums, and their conversion to numbers. -/
module

public import Idealize.ShloMosaic.Lib.Pointwise
public import Idealize.ShloMosaic.Lib.WordCmp
public import Idealize.ShloMosaic.Lib.Routing.Count

@[expose] public section

namespace Cert.Words

open Idealize.ShloMosaic

/-- A sum of words that hold naturals holds the sum of the naturals. -/
theorem fold_sum {ι : Type} (s : Finset ι) (g : ι → Nat) :
    Finset.fold IntOp.addi (0#32) (fun x => BitVec.ofNat 32 (g x)) s = BitVec.ofNat 32 (∑ x ∈ s, g x) := by
  classical
  induction s using Finset.induction_on with
  | empty => rfl
  | insert a s ha ih =>
    rw [Finset.fold_insert ha, Finset.sum_insert ha, ih, BitVec.ofNat_add]
    rfl

theorem fold_eq {ι : Type} [Fintype ι] (f : ι → BitVec 32) (g : ι → Nat) (h : ∀ x, f x = BitVec.ofNat 32 (g x)) :
    Finset.fold IntOp.addi (0#32) f Finset.univ = BitVec.ofNat 32 (∑ x, g x) := by
  rw [← fold_sum]
  exact congrArg (fun f => Finset.fold IntOp.addi (0#32) f Finset.univ) (funext h)

/-- A sum of zeros and ones is a count. -/
theorem sum_count (n : Nat) (P : Nat → Prop) [DecidablePred P] : (∑ x : Fin n, if P x.val then 1 else 0) = Nat.count P n := by
  rw [← Routing.card_filter_fin, Finset.card_filter]

/-- A sum of one-hot words is a count. -/
theorem fold_count (n : Nat) (P : Nat → Prop) [DecidablePred P] (f : Fin n → BitVec 32) (h : ∀ x, f x = BitVec.ofNat 32 (if P x.val then 1 else 0)) :
    Finset.fold IntOp.addi (0#32) f Finset.univ = BitVec.ofNat 32 (Nat.count P n) := by
  rw [← sum_count, fold_eq f _ h]

/-- A truth value as a word. -/
theorem bit (p : Prop) [Decidable p] : BitVec.setWidth 32 (BitVec.ofBool (decide p)) = BitVec.ofNat 32 (if p then 1 else 0) := by
  by_cases h : p
  · rw [if_pos h, decide_eq_true h]; rfl
  · rw [if_neg h, decide_eq_false h]; rfl

/-- An equality of words as a word. -/
theorem hot_eq (a b : BitVec 32) : BitVec.setWidth 32 (IntOp.cmpi .eq a b) = BitVec.ofNat 32 (if a = b then 1 else 0) := by
  rw [WordCmp.cmpi_eq_eq, bit]

theorem hot_le (a b : Nat) (ha : a < 2147483648) (hb : b < 2147483648) :
    BitVec.setWidth 32 (IntOp.cmpi .sle (BitVec.ofNat 32 a) (BitVec.ofNat 32 b)) = BitVec.ofNat 32 (if a ≤ b then 1 else 0) := by
  rw [WordCmp.cmpi_sle_ofNat (by simpa using ha) (by simpa using hb), bit]

theorem hot_ge (a b : Nat) (ha : a < 2147483648) (hb : b < 2147483648) :
    BitVec.setWidth 32 (IntOp.cmpi .sge (BitVec.ofNat 32 a) (BitVec.ofNat 32 b)) = BitVec.ofNat 32 (if b ≤ a then 1 else 0) := by
  rw [WordCmp.cmpi_sge_ofNat (by simpa using ha) (by simpa using hb), bit]

theorem muli_ofNat (a b : Nat) : IntOp.muli (BitVec.ofNat 32 a) (BitVec.ofNat 32 b) = BitVec.ofNat 32 (a * b) := by
  rw [BitVec.ofNat_mul]; rfl

theorem addi_ofNat (a b : Nat) : IntOp.addi (BitVec.ofNat 32 a) (BitVec.ofNat 32 b) = BitVec.ofNat 32 (a + b) := by
  rw [BitVec.ofNat_add]; rfl

theorem subi_ofNat (a b : Nat) (h : b ≤ a) : IntOp.subi (BitVec.ofNat 32 a) (BitVec.ofNat 32 b) = BitVec.ofNat 32 (a - b) := by
  obtain ⟨c, rfl⟩ := Nat.exists_eq_add_of_le h
  rw [Nat.add_sub_cancel_left, BitVec.ofNat_add]
  show BitVec.ofNat 32 b + BitVec.ofNat 32 c - BitVec.ofNat 32 b = BitVec.ofNat 32 c
  rw [BitVec.add_comm, BitVec.add_sub_cancel]

theorem ofNat_inj (a b : Nat) (ha : a < 4294967296) (hb : b < 4294967296) : BitVec.ofNat 32 a = BitVec.ofNat 32 b ↔ a = b := by
  constructor
  · intro h
    have := congrArg BitVec.toNat h
    rw [BitVec.toNat_ofNat, BitVec.toNat_ofNat, Nat.mod_eq_of_lt (by simpa using ha), Nat.mod_eq_of_lt (by simpa using hb)] at this
    exact this
  · rintro rfl; rfl

/-- A one-hot word as a number. -/
theorem hot_real (a b : BitVec 32) :
    (FloatOps.sitofp FTy.f32 (BitVec.setWidth 32 (IntOp.cmpi .eq a b)) : Ideal .f32) = (if a = b then (1 : EReal) else 0) := by
  rw [hot_eq]
  show (((BitVec.ofNat 32 (if a = b then 1 else 0)).toInt : ℝ) : EReal) = _
  split <;> simp

end Cert.Words
-- ==== Proof.Pay.lean ====
/- What the kernel's packing and unpacking compute, element by element: every product with a one-hot matrix is a choice of rows. -/
module

public import proofs.«01_k».proof.Proof.Proto
public import proofs.«01_k».proof.Proof.Words

@[expose] public section

set_option maxRecDepth 16384

noncomputable section

namespace Cert.KernelIdeal.A2A

open Idealize.ShloMosaic Cert.KernelIdeal Cert.KernelIdeal.Gen

/-- The rows of `x` whose place `t` is `k` of the block for destination `y`, added up. -/
def pick (y : Nat) (t : IVec S1x2048 32) (x : FVec Ideal S2048x1024 .bf16) (k : Nat) (b : Fin 1024) : EReal :=
  ∑ i : Fin 2048, (if t (ix2 0 i) = BitVec.ofNat 32 (k + y * 576) then (1 : EReal) else 0) * x (ix2 i b)

section Pack

variable (y : Fin 4) (t : IVec S1x2048 32) (x : FVec Ideal S2048x1024 .bf16) (k : Fin 576) (b : Fin 1024)

theorem pay8_at : k0_pay8 (F := Ideal) (BitVec.ofNat 32 y.val) (k0_pay3 (F := Ideal) t) x (ix2 k b) = pick y.val t x k.val b := by
  pointwise [k0_pay8, k0_pay3]
  refine Finset.sum_congr rfl fun i _ => ?_
  rw [Words.hot_real, ← Words.addi_ofNat]
  exact congrArg (fun w => (if t (ix2 0 i) = IntOp.addi (BitVec.ofNat 32 k.val) w then (1 : EReal) else 0) * x (ix2 i b)) (by revert y; decide)

theorem pay4_at : k0_pay4 (F := Ideal) (BitVec.ofNat 32 y.val) t x (ix2 k b) = pick (y + 1).val t x k.val b := by
  pointwise [k0_pay4, k0_pay3]
  refine Finset.sum_congr rfl fun i _ => ?_
  rw [Words.hot_real, ← Words.addi_ofNat]
  exact congrArg (fun w => (if t (ix2 0 i) = IntOp.addi (BitVec.ofNat 32 k.val) w then (1 : EReal) else 0) * x (ix2 i b)) (by revert y; decide)

theorem pay5_at : k0_pay5 (F := Ideal) (BitVec.ofNat 32 y.val) (k0_pay3 (F := Ideal) t) x (ix2 k b) = pick (y + 2).val t x k.val b := by
  pointwise [k0_pay5, k0_pay3]
  refine Finset.sum_congr rfl fun i _ => ?_
  rw [Words.hot_real, ← Words.addi_ofNat]
  exact congrArg (fun w => (if t (ix2 0 i) = IntOp.addi (BitVec.ofNat 32 k.val) w then (1 : EReal) else 0) * x (ix2 i b)) (by revert y; decide)

theorem pay7_at : k0_pay7 (F := Ideal) (k0_pay6 (BitVec.ofNat 32 y.val) (k0_pay3 (F := Ideal) t) x) (ix2 k b) = pick (y + 3).val t x k.val b := by
  pointwise [k0_pay7, k0_pay6, k0_pay3]
  refine Finset.sum_congr rfl fun i _ => ?_
  rw [Words.hot_real, ← Words.addi_ofNat]
  exact congrArg (fun w => (if t (ix2 0 i) = IntOp.addi (BitVec.ofNat 32 k.val) w then (1 : EReal) else 0) * x (ix2 i b)) (by revert y; decide)

end Pack

/-- The choice finds one row where exactly one is at that place. -/
theorem pick_eq (y : Nat) (t : IVec S1x2048 32) (x : FVec Ideal S2048x1024 .bf16) (k : Nat) (b : Fin 1024) (i : Fin 2048)
    (h : ∀ j, t (ix2 0 j) = BitVec.ofNat 32 (k + y * 576) ↔ j = i) : pick y t x k b = x (ix2 i b) := by
  unfold pick
  rw [Finset.sum_eq_single i]
  · rw [if_pos ((h i).2 rfl), one_mul]
  · intro j _ hj
    rw [if_neg (fun e => hj ((h j).1 e)), zero_mul]
  · intro hi; exact absurd (Finset.mem_univ _) hi

/-- The count that a peer sends, read out of the table. -/
theorem pay9_at (y : Fin 4) (t : IVec S32x128 32) (k : Fin 4) (n : Nat) (h : t (ix2 ⟨k.val * 8, by omega⟩ ⟨y.val, by omega⟩) = BitVec.ofNat 32 n) :
    k0_pay9 (F := Ideal) (BitVec.ofNat 32 y.val) t (ix1 k) = BitVec.ofNat 32 n := by
  pointwise [k0_pay9]
  refine (Words.fold_eq _ (fun x : Fin 128 => if (⟨y.val, by omega⟩ : Fin 128) = x then n else 0) fun x => ?_).trans ?_
  · rw [Words.hot_eq]
    by_cases hx : (⟨y.val, by omega⟩ : Fin 128) = x
    · subst hx
      rw [if_pos rfl, if_pos rfl, h, Words.muli_ofNat, Nat.mul_one]
    · rw [if_neg hx, if_neg]
      · exact BitVec.mul_zero
      · intro e
        rw [Words.ofNat_inj _ _ (by have := x.isLt; omega) (by have := y.isLt; omega)] at e
        exact hx (Fin.ext e.symm)
  · rw [Finset.sum_ite_eq, if_pos (Finset.mem_univ _)]

/-- The rows of the peers up to `x`. -/
def cu (n : Fin 4 → Nat) (x : Fin 4) : Nat := ∑ j : Fin 4, n j * (if j.val ≤ x.val then 1 else 0)

/-- Result row `k` is row `k - o` of peer `s`, where `o` rows come before the peer's. -/
theorem pay11_at (t : IVec S4 32) (n : Fin 4 → Nat) (h : ∀ j, t (ix1 j) = BitVec.ofNat 32 (n j)) (hn : ∀ j, n j ≤ 2048) (k : Fin 2048) (s : Fin 4)
    (o : Nat) (ho : o + n s = cu n s) (h1 : o ≤ k.val) (h2 : k.val < o + n s) :
    k0_pay11 t k0_pay10 (ix2 k 0) = BitVec.ofNat 32 (k.val - o + s.val * 576) := by
  pointwise [k0_pay11, k0_pay10]
  have c0 : cu n 0 = n 0 := by simp [cu, Fin.sum_univ_four]
  have c1 : cu n 1 = n 0 + n 1 := by simp [cu, Fin.sum_univ_four]
  have c2 : cu n 2 = n 0 + n 1 + n 2 := by simp [cu, Fin.sum_univ_four]
  have c3 : cu n 3 = n 0 + n 1 + n 2 + n 3 := by simp [cu, Fin.sum_univ_four]
  have b0 := hn 0; have b1 := hn 1; have b2 := hn 2; have b3 := hn 3
  have cb : ∀ x, cu n x ≤ 8192 := fun x => by
    fin_cases x
    · exact c0.le.trans (by omega)
    · exact c1.le.trans (by omega)
    · exact c2.le.trans (by omega)
    · exact c3.le.trans (by omega)
  have cum : ∀ x : Fin 4, Finset.fold IntOp.addi (0#32)
      (fun x_1 : Fin 4 => IntOp.muli (t (ix1 x_1)) (BitVec.setWidth 32 (IntOp.cmpi .sle (BitVec.ofNat 32 x_1.val) (BitVec.ofNat 32 x.val)))) Finset.univ = BitVec.ofNat 32 (cu n x) := fun x =>
    Words.fold_eq _ _ fun j => by rw [h, Words.hot_le _ _ (by omega) (by omega), Words.muli_ofNat]
  have cle : ∀ x : Fin 4, n x ≤ cu n x := fun x => by
    fin_cases x
    · exact c0.ge.trans' (by simp)
    · exact c1.ge.trans' (by simp)
    · exact c2.ge.trans' (by simp)
    · exact c3.ge.trans' (by simp)
  simp only [cum]
  have S : Finset.fold IntOp.addi (0#32) (fun x : Fin 4 => BitVec.setWidth 32 (IntOp.cmpi .sge (BitVec.ofNat 32 k.val) (BitVec.ofNat 32 (cu n x)))) Finset.univ = BitVec.ofNat 32 s.val := by
    refine (Words.fold_eq _ (fun x => if cu n x ≤ k.val then 1 else 0) fun x => Words.hot_ge _ _ (by omega) (by have := cb x; omega)).trans ?_
    congr 1
    rw [Fin.sum_univ_four, c0, c1, c2, c3]
    fin_cases s
    all_goals
      simp only [Fin.zero_eta, Fin.mk_one, Fin.reduceFinMk] at ho h2
      simp only [c0, c1, c2, c3] at ho
      split_ifs
      all_goals first | omega | rfl
  simp only [S]
  have D : Finset.fold IntOp.addi (0#32) (fun x : Fin 4 => IntOp.muli (BitVec.setWidth 32 (IntOp.cmpi .eq (BitVec.ofNat 32 s.val) (BitVec.ofNat 32 x.val))) (IntOp.subi (BitVec.ofNat 32 (cu n x)) (t (ix1 x)))) Finset.univ
      = BitVec.ofNat 32 o := by
    refine (Words.fold_eq _ (fun x => if s = x then cu n x - n x else 0) fun x => ?_).trans ?_
    · rw [Words.hot_eq, h, Words.subi_ofNat _ _ (cle x), Words.muli_ofNat]
      congr 1
      by_cases hx : s = x
      · subst hx; simp
      · rw [if_neg hx, if_neg, Nat.zero_mul]
        intro e
        rw [Words.ofNat_inj _ _ (by omega) (by omega)] at e
        exact hx (Fin.ext e)
    · rw [Finset.sum_ite_eq, if_pos (Finset.mem_univ _)]
      congr 1
      omega
  rw [D, Words.subi_ofNat _ _ h1]
  rw [show (576#32 : BitVec 32) = BitVec.ofNat 32 576 from rfl, Words.muli_ofNat, Words.addi_ofNat, Nat.add_comm]

/-- The rows of block `j` that the slot word names, added up. -/
def take (w : BitVec 32) (j : Nat) (x : FVec Ideal S576x1024 .bf16) (b : Fin 1024) : EReal :=
  ∑ i : Fin 576, (if w = BitVec.ofNat 32 (i.val + j * 576) then (1 : EReal) else 0) * x (ix2 i b)

/-- The slot word names one row of one block. -/
theorem take_eq (s : Fin 4) (k : Fin 576) (j : Fin 4) (x : FVec Ideal S576x1024 .bf16) (b : Fin 1024) :
    take (BitVec.ofNat 32 (k.val + s.val * 576)) j.val x b = if j = s then x (ix2 k b) else 0 := by
  unfold take
  have e : ∀ i : Fin 576, BitVec.ofNat 32 (k.val + s.val * 576) = BitVec.ofNat 32 (i.val + j.val * 576) ↔ j = s ∧ i = k := fun i => by
    rw [Words.ofNat_inj _ _ (by omega) (by omega), Fin.ext_iff, Fin.ext_iff]
    omega
  by_cases hj : j = s
  · rw [if_pos hj, Finset.sum_eq_single k]
    · rw [if_pos ((e k).2 ⟨hj, rfl⟩), one_mul]
    · intro i _ hi
      rw [if_neg (fun q => hi ((e i).1 q).2), zero_mul]
    · intro hi; exact absurd (Finset.mem_univ _) hi
  · rw [if_neg hj]
    refine Finset.sum_eq_zero fun i _ => ?_
    rw [if_neg (fun q => hj ((e i).1 q).1), zero_mul]

section Unpack

variable (y : Fin 4) (a : IVec S2048x1 32) (z : FVec Ideal S2048x1024 .f32) (x : FVec Ideal S576x1024 .bf16) (k : Fin 2048) (l : Fin 1024)

theorem iot_at (k : Fin 2048) (l : Fin 576) : iot (ix2 k l) = BitVec.ofNat 32 l.val := by
  pointwise [iot]

theorem pay12_at (cn : IVec S4 32) (e : IVec S4x4 32) : k0_pay12 (F := Ideal) (BitVec.ofNat 32 y.val) cn e x (ix2 k l) = take (k0_pay11 cn e (ix2 k 0)) y.val x l := by
  pointwise [k0_pay12]
  refine Finset.sum_congr rfl fun i _ => ?_
  rw [Words.hot_real, ← Words.addi_ofNat]
  exact congrArg (fun w => (if k0_pay11 cn e (ix2 k 0) = IntOp.addi (BitVec.ofNat 32 i.val) w then (1 : EReal) else 0) * x (ix2 i l)) (by revert y; decide)

theorem pay13_at : k0_pay13 (F := Ideal) a iot w406 (Scalar.remsi (Scalar.subi (BitVec.ofNat 32 y.val) 1#32) w406) z x (ix2 k l) = z (ix2 k l) + take (a (ix2 k 0)) (y - 1).val x l := by
  pointwise [k0_pay13]
  refine congrArg (z (ix2 k l) + ·) (Finset.sum_congr rfl fun i _ => ?_)
  rw [Words.hot_real, ← Words.addi_ofNat]
  exact congrArg (fun w => (if a (ix2 k 0) = IntOp.addi (BitVec.ofNat 32 i.val) w then (1 : EReal) else 0) * x (ix2 i l)) (by revert y; decide)

theorem pay14_at : k0_pay14 (F := Ideal) a iot (Scalar.subi (BitVec.ofNat 32 y.val) 2#32) 4#32 z x (ix2 k l) = z (ix2 k l) + take (a (ix2 k 0)) (y - 2).val x l := by
  pointwise [k0_pay14]
  refine congrArg (z (ix2 k l) + ·) (Finset.sum_congr rfl fun i _ => ?_)
  rw [Words.hot_real, ← Words.addi_ofNat]
  exact congrArg (fun w => (if a (ix2 k 0) = IntOp.addi (BitVec.ofNat 32 i.val) w then (1 : EReal) else 0) * x (ix2 i l)) (by revert y; decide)

theorem pay17_at : k0_pay17 (F := Ideal) (k0_pay15 z) (k0_pay16 (F := Ideal) (BitVec.ofNat 32 y.val) a iot) x (ix2 k l) = z (ix2 k l) + take (a (ix2 k 0)) (y - 3).val x l := by
  pointwise [k0_pay17, k0_pay16, k0_pay15]
  refine congrArg (z (ix2 k l) + ·) (Finset.sum_congr rfl fun i _ => ?_)
  rw [Words.hot_real, ← Words.addi_ofNat]
  exact congrArg (fun w => (if a (ix2 k 0) = IntOp.addi (BitVec.ofNat 32 i.val) w then (1 : EReal) else 0) * x (ix2 i l)) (by revert y; decide)

end Unpack

end Cert.KernelIdeal.A2A

end
-- ==== Proof.Pre.lean ====
/- What the host operations before the kernel hand it: for each row its place in the blocks to send, and the number of rows per destination. -/
module

public import proofs.«01_k».proof.Proof.Proto
public import proofs.«01_k».proof.Proof.Words
public import Idealize.ShloMosaic.Lib.StableHlo.ReadAt
public import Idealize.ShloMosaic.Lib.Routing.OpsOne

@[expose] public section

set_option maxRecDepth 16384

noncomputable section

namespace Cert.KernelIdeal.A2A

open Idealize.ShloMosaic Cert.KernelIdeal Cert.KernelIdeal.Gen

variable {F : FTy → Type} [FloatOps F] (m : (ℓ : Loc nD τ sig) → Buf (Elt F) ℓ)

/-- The destinations a device holds. -/
abbrev av (c : Dev nD) : IVec S2048 32 := m ((c : Dev nD), Proc.tc.devRef main_arg1)

variable (c : Dev nD) (d : Nat → Nat) (hd : ∀ i : Fin 2048, av m c (ix1 i) = BitVec.ofNat 32 (d i.val)) (hlt : ∀ i, i < 2048 → d i < 4)
include hd hlt

theorem hit_word (i : Fin 2048) (x : Fin 4) :
    BitVec.setWidth 32 (IntOp.cmpi .eq (av m c (ix1 i)) (BitVec.ofNat 32 x.val)) = BitVec.ofNat 32 (if d i.val = x.val then 1 else 0) := by
  rw [Words.hot_eq, hd]
  simp only [Words.ofNat_inj (d i.val) x.val (by have := hlt i.val i.isLt; omega) (by omega)]

/-- A row's place: its destination's block, and how many rows before it go there. -/
theorem tv_at (i : Fin 2048) : tv m c (ix2 0 i) = BitVec.ofNat 32 (Nat.count (fun j => d j = d i.val) i.val + d i.val * 576) := by
  unfold tv V₄ V₃ V₂ V₁ V₀
  unfold hostOps0 hostOps0_1 hostOps0_2 hostOps0_3
  after_reads_at
  have hb : ∀ x : Fin 4, Nat.count (fun j => d j = x.val) i.val ≤ Nat.count (fun j => d j = x.val) (i.val + 1) := fun x => Nat.count_monotone _ (by omega)
  refine (congrArg₂ IntOp.addi (show _ = BitVec.ofNat 32 (d i.val * 576) from ?_) (Words.fold_eq _ (fun x : Fin 4 => if (⟨d i.val, hlt i.val i.isLt⟩ : Fin 4) = x then Nat.count (fun j => d j = x.val) i.val else 0) fun x => ?_)).trans ?_
  · exact (congrArg (IntOp.muli · 576#32) (hd i)).trans (Words.muli_ofNat _ 576)
  · have hx := hit_word m c d hd hlt i x
    refine (congrArg₂ IntOp.muli hx (congrArg₂ IntOp.subi (show _ = BitVec.ofNat 32 (Nat.count (fun j => d j = x.val) (i.val + 1)) from ?_) hx)).trans ?_
    · rw [ix2_eq_valueIdx]
      refine (Routing.cumsum_rows (R := 2048) (Rm1 := 2047) (C := 4) rfl _ (fun j y => if d j = y then 1 else 0) (fun j y => ?_) _ ?_ _ _ i x).trans ?_
      · rw [← ix2_eq_valueIdx]
        pointwise
        exact hit_word m c d hd hlt j y
      · pointwise
      · rw [Routing.sum_map_ite]
    · rw [Words.subi_ofNat _ _ (by rw [Nat.count_succ]; omega), Words.muli_ofNat]
      congr 1
      rw [Nat.count_succ, Nat.add_sub_cancel]
      by_cases e : d i.val = x.val
      · rw [if_pos e, if_pos (Fin.ext e), Nat.one_mul]
      · rw [if_neg e, if_neg (fun q => e (congrArg Fin.val q)), Nat.zero_mul]
  · rw [Finset.sum_ite_eq, if_pos (Finset.mem_univ _), Words.addi_ofNat, Nat.add_comm]

/-- How many of a device's rows go to `y`. -/
theorem cnt_at (y : Fin 4) : cnt m c (ix2 0 ⟨y.val, by omega⟩) = BitVec.ofNat 32 (Nat.count (fun j => d j = y.val) 2048) := by
  unfold cnt V₄ V₃ V₂ V₁ V₀
  unfold hostOps0 hostOps0_1 hostOps0_2 hostOps0_3
  after_reads_at
  exact Words.fold_count 2048 (fun j => d j = y.val) _ fun i => hit_word m c d hd hlt i y

omit hd hlt in
theorem xv_eq : xv m c = m ((c : Dev nD), Proc.tc.devRef main_arg0) := by
  unfold xv V₄ V₃ V₂ V₁ V₀
  unfold hostOps0 hostOps0_1 hostOps0_2 hostOps0_3
  after_reads_simp

end Cert.KernelIdeal.A2A

end
-- ==== Proof.Counting.lean ====
/- Counting: where a stable sort puts an element, and where the kernel's slot arithmetic finds it. Natural numbers only; nothing here names a program. -/
module

public import Idealize.ShloMosaic.Lib.Routing.Count
public import Idealize.ShloMosaic.Lib.SortFacts

@[expose] public section

namespace Cert.Counting

open Idealize.ShloMosaic

/-! ## Counts -/

/-- Two tests that never hold together: the count of either is the sum of the counts. -/
theorem count_or (P Q R : Nat → Prop) [DecidablePred P] [DecidablePred Q] [DecidablePred R] (n : Nat) (hd : ∀ i, i < n → ¬ (P i ∧ Q i))
    (hR : ∀ i, i < n → (R i ↔ P i ∨ Q i)) : Nat.count R n = Nat.count P n + Nat.count Q n := by
  induction n with
  | zero => simp
  | succ n ih =>
    have ih' := ih (fun i h => hd i (by omega)) (fun i h => hR i (by omega))
    have h1 := hd n (by omega)
    have h2 := hR n (by omega)
    rw [Nat.count_succ, Nat.count_succ, Nat.count_succ, ih']
    by_cases hp : P n <;> by_cases hq : Q n
    · exact absurd ⟨hp, hq⟩ h1
    · rw [if_pos (h2.mpr (.inl hp)), if_pos hp, if_neg hq]; omega
    · rw [if_pos (h2.mpr (.inr hq)), if_neg hp, if_pos hq]; omega
    · rw [if_neg (fun h => (h2.mp h).elim hp hq), if_neg hp, if_neg hq]; omega

/-- The places whose number is below `y`, counted one number at a time. -/
theorem count_lt (f : Nat → Nat) (y n : Nat) : Nat.count (fun i => f i < y) n = ((List.range y).map fun r => Nat.count (fun i => f i = r) n).sum := by
  induction y with
  | zero => simp
  | succ y ih =>
    rw [List.range_succ, List.map_append, List.sum_append, ← ih, List.map_singleton, List.sum_singleton]
    exact count_or _ _ _ n (fun i _ h => by omega) (fun i _ => by omega)

/-- A count of the places below `k` only. -/
theorem count_below (P : Nat → Prop) [DecidablePred P] (k n : Nat) (hk : k ≤ n) : Nat.count (fun i => P i ∧ i < k) n = Nat.count P k := by
  obtain ⟨e, rfl⟩ : ∃ e, n = k + e := ⟨n - k, by omega⟩
  rw [Nat.count_add]
  have h1 : Nat.count (fun i => P i ∧ i < k) k = Nat.count P k := Routing.count_congr_of_lt k fun i hi => ⟨fun h => h.1, fun h => ⟨h, hi⟩⟩
  have h2 : Nat.count (fun i => P (k + i) ∧ k + i < k) e = 0 := by
    rw [Routing.count_congr_of_lt (Q := fun _ => False) e fun i hi => ⟨fun h => by omega, fun h => h.elim⟩]
    simp
  rw [h1, h2, Nat.add_zero]

/-- The place at which a count stands at `k`. -/
theorem exists_count (P : Nat → Prop) [DecidablePred P] (k n : Nat) (h : k < Nat.count P n) : ∃ i, i < n ∧ P i ∧ Nat.count P i = k := by
  induction n with
  | zero => simp at h
  | succ n ih =>
    rw [Nat.count_succ] at h
    by_cases hk : k < Nat.count P n
    · obtain ⟨i, h1, h2, h3⟩ := ih hk
      exact ⟨i, by omega, h2, h3⟩
    · by_cases hp : P n
      · rw [if_pos hp] at h
        exact ⟨n, by omega, hp, by omega⟩
      · rw [if_neg hp] at h; omega

/-- Two places at which the same count stands, both of them hits, are one place. -/
theorem count_inj (P : Nat → Prop) [DecidablePred P] (i j : Nat) (hi : P i) (hj : P j) (h : Nat.count P i = Nat.count P j) : i = j := by
  rcases Nat.lt_trichotomy i j with hij | hij | hij
  · have := Nat.count_monotone P (show i + 1 ≤ j by omega)
    rw [Nat.count_succ, if_pos hi] at this; omega
  · exact hij
  · have := Nat.count_monotone P (show j + 1 ≤ i by omega)
    rw [Nat.count_succ, if_pos hj] at this; omega

/-- A count over four stretches of equal length. -/
theorem count_four (P : Nat → Prop) [DecidablePred P] (n : Nat) :
    Nat.count P (4 * n) = Nat.count (fun i => P (0 * n + i)) n + Nat.count (fun i => P (1 * n + i)) n + Nat.count (fun i => P (2 * n + i)) n + Nat.count (fun i => P (3 * n + i)) n := by
  rw [show 4 * n = n + n + n + n by omega, Nat.count_add, Nat.count_add, Nat.count_add]
  simp only [Nat.zero_mul, Nat.zero_add, Nat.one_mul, show n + n = 2 * n by omega, show 2 * n + n = 3 * n by omega]

/-! ## A stable sort puts each position where its rank says -/

section StableSort

variable {n : Nat} (d : Fin n → Nat)

/-- The order of the positions that a stable sort by `d` gives: by `d`, and among equals by the position itself. -/
def Lex (a b : Fin n) : Prop := d a < d b ∨ d a = d b ∧ a.val < b.val

instance : DecidableRel (Lex d) := fun a b => inferInstanceAs (Decidable (d a < d b ∨ d a = d b ∧ a.val < b.val))

theorem Lex.trans {a b c : Fin n} (h₁ : Lex d a b) (h₂ : Lex d b c) : Lex d a c := by unfold Lex at *; omega
theorem Lex.irrefl (a : Fin n) : ¬ Lex d a a := by unfold Lex; omega

/-- The stable sort's test. -/
abbrev before (a b : Fin n) : Bool := decide (d a < d b)

theorem insertBefore_lex (a : Fin n) (l : List (Fin n)) (hl : l.Pairwise (Lex d)) (ha : ∀ b ∈ l, a.val < b.val) :
    (insertBefore (before d) a l).Pairwise (Lex d) := by
  induction l with
  | nil => exact List.pairwise_singleton _ _
  | cons b l ih =>
    rw [List.pairwise_cons] at hl
    unfold insertBefore
    split
    · next h =>
      have h' : d b < d a := of_decide_eq_true h
      rw [List.pairwise_cons]
      refine ⟨fun c hc => ?_, ih hl.2 fun c hc => ha c (List.mem_cons_of_mem _ hc)⟩
      rcases List.mem_cons.mp ((perm_insertBefore _ a l).mem_iff.mp hc) with rfl | hc
      · exact Or.inl h'
      · exact hl.1 c hc
    · next h =>
      have h' : ¬ d b < d a := fun hh => h (decide_eq_true hh)
      have hab : Lex d a b := by have := ha b List.mem_cons_self; unfold Lex; omega
      rw [List.pairwise_cons]
      refine ⟨fun c hc => ?_, List.pairwise_cons.mpr hl⟩
      rcases List.mem_cons.mp hc with rfl | hc
      · exact hab
      · exact hab.trans d (hl.1 c hc)

theorem stableSort_lex (l : List (Fin n)) (hl : l.Pairwise fun a b => a.val < b.val) : (stableSort (before d) l).Pairwise (Lex d) := by
  induction l with
  | nil => exact List.Pairwise.nil
  | cons a l ih =>
    rw [List.pairwise_cons] at hl
    unfold stableSort
    exact insertBefore_lex d a _ (ih hl.2) fun b hb => hl.1 b ((perm_stableSort _ l).mem_iff.mp hb)

theorem sortedFrom_lex (i j : Fin n) (hij : i < j) : Lex d (sortedFrom (before d) i) (sortedFrom (before d) j) := by
  have hp : (sortPositions n (before d)).Pairwise (Lex d) := stableSort_lex d _ (List.pairwise_lt_finRange n)
  unfold sortedFrom
  exact List.pairwise_iff_get.mp hp _ _ hij

/-- The element whose rank is `r` is the one a stable sort puts at `r`. -/
theorem sortedFrom_rank (p r : Fin n) (h : (Finset.univ.filter fun q => Lex d q p).card = r.val) : sortedFrom (before d) r = p := by
  obtain ⟨k, rfl⟩ := sortedFrom_surjective (before d) p
  have e : (Finset.univ.filter fun q => Lex d q (sortedFrom (before d) k)) = (Finset.univ.filter fun j : Fin n => j < k).image (sortedFrom (before d)) := by
    ext q
    obtain ⟨j, rfl⟩ := sortedFrom_surjective (before d) q
    simp only [Finset.mem_filter, Finset.mem_univ, true_and, Finset.mem_image]
    constructor
    · intro hl
      refine ⟨j, ?_, rfl⟩
      rcases lt_trichotomy j k with hjk | hjk | hjk
      · exact hjk
      · subst hjk; exact (Lex.irrefl d _ hl).elim
      · exact (Lex.irrefl d _ (hl.trans d (sortedFrom_lex d k j hjk))).elim
    · rintro ⟨j', hj', hjj⟩
      rw [← hjj]
      exact sortedFrom_lex d j' k hj'
  rw [e, Finset.card_image_of_injective _ (sortedFrom_injective _)] at h
  have hk : (Finset.univ.filter fun j : Fin n => j < k).card = k.val := by
    rw [show (Finset.univ.filter fun j : Fin n => j < k) = Finset.Iio k from by ext; simp]
    exact Fin.card_Iio k
  rw [hk] at h
  rw [Fin.ext h]

end StableSort

/-! ## Four sources of 2048 rows each, every row with a destination -/

section Route

variable (d : Nat → Nat → Nat)

/-- The rows that source `s` sends to destination `y`. -/
abbrev N (s y : Nat) : Nat := Nat.count (fun i => d s i = y) 2048
/-- The rows that the sources before `s` send to destination `y`. -/
def st (y : Nat) : Nat → Nat
  | 0 => 0
  | s + 1 => st y s + N d s y
/-- The number of a row among the rows of its source that go where it goes. -/
abbrev pos (s i : Nat) : Nat := Nat.count (fun j => d s j = d s i) i

/-- The routing is balanced and fits its buffers. -/
structure Routed : Prop where
  lt : ∀ s i, s < 4 → i < 2048 → d s i < 4
  col : ∀ y, y < 4 → N d 0 y + N d 1 y + N d 2 y + N d 3 y = 2048
  le : ∀ s y, s < 4 → y < 4 → N d s y ≤ 576

variable {d}

/-- Row `r` of destination `y`: its source, and its place there. -/
theorem Routed.find (h : Routed d) (y r : Nat) (hy : y < 4) (hr : r < 2048) :
    ∃ s i, s < 4 ∧ i < 2048 ∧ d s i = y ∧ pos d s i < N d s y ∧ st d y s + pos d s i = r := by
  have hc := h.col y hy
  have key : ∀ s, s < 4 → st d y s ≤ r → r < st d y s + N d s y → ∃ s i, s < 4 ∧ i < 2048 ∧ d s i = y ∧ pos d s i < N d s y ∧ st d y s + pos d s i = r := by
    intro s hs h1 h2
    obtain ⟨i, hi, hd, hk⟩ := exists_count (fun i => d s i = y) (r - st d y s) 2048 (by unfold N at h2; omega)
    refine ⟨s, i, hs, hi, hd, ?_, ?_⟩
    · subst hd; unfold pos; omega
    · subst hd; unfold pos; omega
  have e1 : st d y 1 = N d 0 y := by simp only [st]; omega
  have e2 : st d y 2 = N d 0 y + N d 1 y := by simp only [st]; omega
  have e3 : st d y 3 = N d 0 y + N d 1 y + N d 2 y := by simp only [st]; omega
  have e0 : st d y 0 = 0 := rfl
  by_cases c1 : r < N d 0 y
  · exact key 0 (by omega) (by omega) (by omega)
  by_cases c2 : r < N d 0 y + N d 1 y
  · exact key 1 (by omega) (by omega) (by omega)
  by_cases c3 : r < N d 0 y + N d 1 y + N d 2 y
  · exact key 2 (by omega) (by omega) (by omega)
  · exact key 3 (by omega) (by omega) (by omega)

/-- The destination of a row by its number in the whole array. -/
abbrev flatD (d : Nat → Nat → Nat) (q : Nat) : Nat := d (q / 2048) (q % 2048)

/-- In the whole array sorted by destination, the row stands where the kernel puts it. -/
theorem Routed.rank (h : Routed d) (s i : Nat) (hs : s < 4) (hi : i < 2048) :
    Nat.count (fun q => flatD d q < flatD d (2048 * s + i) ∨ flatD d q = flatD d (2048 * s + i) ∧ q < 2048 * s + i) 8192
      = 2048 * d s i + (st d (d s i) s + pos d s i) := by
  have hdp : flatD d (2048 * s + i) = d s i := by
    unfold flatD
    rw [show (2048 * s + i) / 2048 = s by omega, show (2048 * s + i) % 2048 = i by omega]
  have hy := h.lt s i hs hi
  rw [hdp]
  have piece : ∀ t, t < 4 → Nat.count (fun j => flatD d (t * 2048 + j) < d s i ∨ flatD d (t * 2048 + j) = d s i ∧ t * 2048 + j < 2048 * s + i) 2048
      = ((List.range (d s i)).map fun r => N d t r).sum + (if t < s then N d t (d s i) else if t = s then pos d s i else 0) := by
    intro t ht
    have hf : ∀ j, j < 2048 → flatD d (t * 2048 + j) = d t j := fun j hj => by
      unfold flatD
      rw [show (t * 2048 + j) / 2048 = t by omega, show (t * 2048 + j) % 2048 = j by omega]
    rw [count_or (fun j => d t j < d s i) (fun j => d t j = d s i ∧ t * 2048 + j < 2048 * s + i) _ 2048 (fun j _ hh => by omega)
      (fun j hj => by rw [hf j hj]), count_lt]
    congr 1
    rcases Nat.lt_trichotomy t s with hts | hts | hts
    · rw [if_pos hts]
      exact Routing.count_congr_of_lt 2048 fun j hj => ⟨fun hh => hh.1, fun hh => ⟨hh, by omega⟩⟩
    · subst hts
      rw [if_neg (by omega), if_pos rfl, show pos d t i = _ from (count_below (fun j => d t j = d t i) i 2048 (by omega)).symm]
      exact Routing.count_congr_of_lt 2048 fun j hj => ⟨fun hh => ⟨hh.1, by omega⟩, fun hh => ⟨hh.1, by omega⟩⟩
    · rw [if_neg (by omega), if_neg (by omega), Routing.count_congr_of_lt (Q := fun _ => False) 2048 fun j hj => ⟨fun hh => by omega, fun hh => hh.elim⟩]
      simp
  rw [show (8192 : Nat) = 4 * 2048 by rfl, count_four, piece 0 (by omega), piece 1 (by omega), piece 2 (by omega), piece 3 (by omega)]
  generalize hp : pos d s i = p
  generalize d s i = y at *
  have c0 := h.col 0 (by omega)
  have c1 := h.col 1 (by omega)
  have c2 := h.col 2 (by omega)
  have hst : st d y s = (if 0 < s then N d 0 y else 0) + (if 1 < s then N d 1 y else 0) + (if 2 < s then N d 2 y else 0) := by
    obtain rfl | rfl | rfl | rfl : s = 0 ∨ s = 1 ∨ s = 2 ∨ s = 3 := by omega
    all_goals simp [st]
  have hsum : ∀ t, ((List.range y).map fun r => N d t r).sum = (if 0 < y then N d t 0 else 0) + (if 1 < y then N d t 1 else 0) + (if 2 < y then N d t 2 else 0) := by
    intro t
    obtain rfl | rfl | rfl | rfl : y = 0 ∨ y = 1 ∨ y = 2 ∨ y = 3 := by omega
    all_goals simp [List.range_succ, Nat.add_assoc]
  rw [hst, hsum, hsum, hsum, hsum]
  generalize N d 0 y = m0
  generalize N d 1 y = m1
  generalize N d 2 y = m2
  generalize N d 3 y = m3
  generalize N d 0 0 = a00 at *
  generalize N d 1 0 = a10 at *
  generalize N d 2 0 = a20 at *
  generalize N d 3 0 = a30 at *
  generalize N d 0 1 = a01 at *
  generalize N d 1 1 = a11 at *
  generalize N d 2 1 = a21 at *
  generalize N d 3 1 = a31 at *
  generalize N d 0 2 = a02 at *
  generalize N d 1 2 = a12 at *
  generalize N d 2 2 = a22 at *
  generalize N d 3 2 = a32 at *
  obtain rfl | rfl | rfl | rfl : y = 0 ∨ y = 1 ∨ y = 2 ∨ y = 3 := by omega
  all_goals
    obtain rfl | rfl | rfl | rfl : s = 0 ∨ s = 1 ∨ s = 2 ∨ s = 3 := by omega
    all_goals simp
    all_goals omega

/-- From the counts alone: every destination is one of the four. -/
theorem Routed.of_counts (hcol : ∀ y, y < 4 → N d 0 y + N d 1 y + N d 2 y + N d 3 y = 2048) (hle : ∀ s y, s < 4 → y < 4 → N d s y ≤ 576) : Routed d := by
  refine ⟨fun s i hs hi => ?_, hcol, hle⟩
  have hall : ∀ t, Nat.count (fun i => d t i < 4) 2048 = N d t 0 + N d t 1 + N d t 2 + N d t 3 := fun t => by
    rw [count_lt]; simp [List.range_succ, N, Nat.add_assoc]
  have hb : ∀ t, Nat.count (fun i => d t i < 4) 2048 ≤ 2048 := fun t => Nat.count_le _
  have c0 := hcol 0 (by omega)
  have c1 := hcol 1 (by omega)
  have c2 := hcol 2 (by omega)
  have c3 := hcol 3 (by omega)
  have b0 := hb 0; have b1 := hb 1; have b2 := hb 2; have b3 := hb 3
  have a0 := hall 0; have a1 := hall 1; have a2 := hall 2; have a3 := hall 3
  have hfull : Nat.count (fun i => d s i < 4) 2048 = 2048 := by
    obtain rfl | rfl | rfl | rfl : s = 0 ∨ s = 1 ∨ s = 2 ∨ s = 3 := by omega
    all_goals omega
  exact Nat.count_iff_forall.mp hfull i hi

end Route

end Cert.Counting
-- ==== Proof.Ker.lean ====
/- What a device's result holds when the routing is balanced: at row `r` the row of the source that owns it. -/
module

public import proofs.«01_k».proof.Proof.Pay
public import proofs.«01_k».proof.Proof.Pre
public import proofs.«01_k».proof.Proof.Counting

@[expose] public section

set_option maxRecDepth 16384

noncomputable section

namespace Cert.KernelIdeal.A2A

open Idealize.ShloMosaic Cert.KernelIdeal Cert.KernelIdeal.Gen Cert.Counting

theorem yw_eq (c : Dev nD) : yw c = BitVec.ofNat 32 (yc c).val := by revert c; decide

theorem yc_fr (d : Fin 3) (c : Dev nD) : yc (fr d c) = yc c - d.succ := by revert d c; decide

/-- Of the four steps back from a coordinate, one leads to `s`. -/
theorem four : ∀ y s : Fin 4, (y = s ∧ y - 1 ≠ s ∧ y - 2 ≠ s ∧ y - 3 ≠ s) ∨ (y ≠ s ∧ y - 1 = s ∧ y - 2 ≠ s ∧ y - 3 ≠ s) ∨ (y ≠ s ∧ y - 1 ≠ s ∧ y - 2 = s ∧ y - 3 ≠ s)
      ∨ (y ≠ s ∧ y - 1 ≠ s ∧ y - 2 ≠ s ∧ y - 3 = s) := by decide

variable (m : (ℓ : Loc nD τ sig) → Buf (Elt Ideal) ℓ) (c : Dev nD)

/-- A packed block, element by element. -/
theorem packD_at (j : Fin 4) (k : Fin 576) (b : Fin 1024) : packD m c j (ix2 k b) = pick (yc c + j).val (tv m c) (xv m c) k.val b := by
  unfold packD
  rw [yw_eq]
  match j with
  | 0 => exact (pay8_at _ _ _ k b).trans (by rw [add_zero])
  | 1 => exact pay4_at _ _ _ k b
  | 2 => exact pay5_at _ _ _ k b
  | 3 => exact pay7_at _ _ _ k b

theorem blk_at (j : Fin 4) (k : Fin 576) (b : Fin 1024) : blk m c j (ix2 k b) = pick (yc c).val (tv m (src c j)) (xv m (src c j)) k.val b := by
  unfold blk
  rw [packD_at, yc_src, add_sub_cancel]

variable (d : Nat → Nat → Nat) (hd : ∀ (c : Dev nD) (i : Fin 2048), av m c (ix1 i) = BitVec.ofNat 32 (d (yc c).val i.val)) (hR : Routed d)
include hd hR

theorem gAll_at (s y : Fin 4) : gAll m c (ix2 ⟨s.val * 8, by omega⟩ ⟨y.val, by omega⟩) = BitVec.ofNat 32 (N d s.val y.val) := by
  have h := cnt_at m (src c s) (d s.val) (fun i => by rw [hd, yc_src]) (fun i hi => hR.lt s.val i s.isLt hi) y
  refine Eq.trans ?_ h
  show cnt m (src c (gBlk _)) (gLoc _) = _
  have e1 : gBlk (ix2 ⟨s.val * 8, by omega⟩ ⟨y.val, by omega⟩) = s := Fin.ext (by show s.val * 8 / 8 = s.val; omega)
  have e2 : gLoc (ix2 ⟨s.val * 8, by omega⟩ ⟨y.val, by omega⟩) = ix2 0 ⟨y.val, by omega⟩ := by
    funext a
    match a with
    | ⟨0, _⟩ => exact Fin.ext (by show s.val * 8 % 8 = 0; omega)
    | ⟨1, _⟩ => rfl
  rw [e1, e2]

theorem cnts_at (s : Fin 4) : cnts m c (ix1 s) = BitVec.ofNat 32 (N d s.val (yc c).val) := by
  unfold cnts
  rw [yw_eq]
  exact pay9_at (yc c) _ s _ (gAll_at m c d hd hR s (yc c))

/-- A packed block holds, at place `k`, the row whose number among the rows for the destination is `k`. -/
theorem blk_row (s : Fin 4) (i : Fin 2048) (hi : d s.val i.val = (yc c).val) (k : Fin 576) (hk : pos d s.val i.val = k.val) (b : Fin 1024) :
    blk m c s (ix2 k b) = xv m (src c s) (ix2 i b) := by
  rw [blk_at]
  refine pick_eq _ _ _ _ _ i fun j => ?_
  have hdj : ∀ j, d s.val j = d (yc (src c s)).val j := fun j => by rw [yc_src]
  have hl : ∀ j, j < 2048 → d s.val j < 4 := fun j hj => hR.lt s.val j s.isLt hj
  rw [tv_at m (src c s) (d s.val) (fun i => by rw [hd, yc_src]) hl j]
  have hj := hl j.val j.isLt
  have hpj : Nat.count (fun q => d s.val q = d s.val j.val) j.val < N d s.val (d s.val j.val) :=
    Nat.count_strict_mono (p := fun q => d s.val q = d s.val j.val) rfl j.isLt
  have hle := hR.le s.val (d s.val j.val) s.isLt hj
  have hy := (yc c).isLt
  rw [Words.ofNat_inj _ _ (by omega) (by omega)]
  constructor
  · intro e
    have e1 : d s.val j.val = (yc c).val := by omega
    have e2 : Nat.count (fun q => d s.val q = d s.val j.val) j.val = k.val := by omega
    rw [e1] at e2
    have hk' : Nat.count (fun q => d s.val q = (yc c).val) i.val = k.val := by rw [← hi]; exact hk
    exact Fin.ext (count_inj (fun q => d s.val q = (yc c).val) _ _ e1 hi (e2.trans hk'.symm))
  · rintro rfl
    show pos d s.val j.val + _ = _
    rw [hk, hi]

/-- The result, row by row. -/
theorem out3_at (r : Fin 2048) (s : Fin 4) (i : Fin 2048) (hi : d s.val i.val = (yc c).val) (hr : st d (yc c).val s.val + pos d s.val i.val = r.val) (b : Fin 1024) :
    out3 m c (ix2 r b) = xv m (src c s) (ix2 i b) := by
  have hp : pos d s.val i.val < N d s.val (yc c).val := by
    rw [← hi]
    exact Nat.count_strict_mono (p := fun q => d s.val q = d s.val i.val) rfl i.isLt
  have hle := hR.le s.val (yc c).val s.isLt (yc c).isLt
  have hcu : st d (yc c).val s.val + N d s.val (yc c).val = cu (fun j => N d j.val (yc c).val) s := by
    unfold cu
    rw [Fin.sum_univ_four]
    obtain ⟨s, hs⟩ := s
    obtain rfl | rfl | rfl | rfl : s = 0 ∨ s = 1 ∨ s = 2 ∨ s = 3 := by omega
    all_goals simp [st]
  have slot : slotOf m c (ix2 r 0) = BitVec.ofNat 32 (pos d s.val i.val + s.val * 576) := by
    unfold slotOf
    rw [pay11_at _ (fun j => N d j.val (yc c).val) (cnts_at m c d hd hR) (fun j => Nat.count_le _) r s _ hcu (by omega) (by omega)]
    congr 2
    omega
  have hk := blk_row m c d hd hR s i hi ⟨pos d s.val i.val, by omega⟩ rfl b
  have tk : ∀ j : Fin 4, take (slotOf m c (ix2 r 0)) j.val (blk m c j) b = if j = s then xv m (src c s) (ix2 i b) else 0 := fun j => by
    rw [slot, take_eq s ⟨pos d s.val i.val, by omega⟩ j]
    by_cases e : j = s
    · subst e; rw [if_pos rfl, if_pos rfl, hk]
    · rw [if_neg e, if_neg e]
  have e0 : out0 m c (ix2 r b) = if yc c = s then xv m (src c s) (ix2 i b) else 0 := by
    unfold out0
    rw [yw_eq, pay12_at, ← tk]
    rfl
  have e1 : out1 m c (ix2 r b) = out0 m c (ix2 r b) + if yc c - 1 = s then xv m (src c s) (ix2 i b) else 0 := by
    unfold out1 w407
    rw [yw_eq, pay13_at, yc_fr, ← tk]
    rfl
  have e2 : out2 m c (ix2 r b) = out1 m c (ix2 r b) + if yc c - 2 = s then xv m (src c s) (ix2 i b) else 0 := by
    unfold out2 w442
    rw [yw_eq, pay14_at, yc_fr, ← tk]
    rfl
  have e3 : out3 m c (ix2 r b) = out2 m c (ix2 r b) + if yc c - 3 = s then xv m (src c s) (ix2 i b) else 0 := by
    unfold out3
    rw [yw_eq, pay17_at, yc_fr, ← tk]
    rfl
  rw [e3, e2, e1, e0]
  generalize xv m (src c s) (ix2 i b) = v
  generalize yc c = y
  have this := four y s
  rcases this with ⟨h0, h1, h2, h3⟩ | ⟨h0, h1, h2, h3⟩ | ⟨h0, h1, h2, h3⟩ | ⟨h0, h1, h2, h3⟩
  · rw [if_pos h0, if_neg h1, if_neg h2, if_neg h3, add_zero, add_zero, add_zero]
  · rw [if_neg h0, if_pos h1, if_neg h2, if_neg h3, add_zero, add_zero, zero_add]
  · rw [if_neg h0, if_neg h1, if_pos h2, if_neg h3, add_zero, zero_add, zero_add]
  · rw [if_neg h0, if_neg h1, if_neg h2, if_pos h3, zero_add, zero_add, zero_add]

end Cert.KernelIdeal.A2A

end
-- ==== Proof.Ref.lean ====
/- What the reference computes: at row `r` the row that stands there when the rows are sorted, stably, by destination. -/
module

public import proofs.«01_k».proof.Proof.Gen.ReferenceIdeal.Run
public import proofs.«01_k».proof.Proof.Counting
public import Idealize.ShloMosaic.Lib.Routing.SortLink
public import Idealize.ShloMosaic.Lib.Routing.Ops
public import Idealize.ShloMosaic.Lib.Routing.OpsPair
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.ValueIdx Cert.Counting

variable (A : FVec Ideal S8192x1024 .bf16) (D : IVec S8192 32)

/-- The order of the rows sorted by destination. -/
abbrev order : IVec S8192 32 := (Host.sort2 S8192 0 comparator_i32_i32_d0 D (iotaInDim S8192 32 0)).2

/-- The reference's result. -/
abbrev refOut : FVec Ideal S8192x1024 .f32 :=
  Host.gather gather_S8192x1024_S8192x1_S8192x1024_1_0_n_n_0_1_11024 (extf .f32 A bitsLt_bf16_f32)
    (broadcastInDim S8192x1 ![0] bcast_S8192_S8192x1_0
      (select (cmpi .slt (order D) (broadcastInDim S8192 ![] bcast_S_S8192 (constantI S_ 32 0#32)))
        (addi (order D) (broadcastInDim S8192 ![] bcast_S_S8192 (constantI S_ 32 8192#32))) (order D)))

variable (hlt : ∀ q, (D (ix1 q)).toNat < 4) (p r : Fin 8192)
  (h : (Finset.univ.filter fun q => Lex (fun q => (D (ix1 q)).toNat) q p).card = r.val)
include hlt h

theorem order_at : order D (ix1 r) = BitVec.ofNat 32 p.val := by
  have hd : 0 < S8192.rank := Nat.zero_lt_one
  have e : ∀ (j : S8192.Idx) (c : Fin 8192), j.along (⟨0, hd⟩ : Fin S8192.rank) c = ix1 c := fun j c =>
    (Shape.Idx.along_rank1 j c).trans (Routing.ofFin_eq_ix1 c)
  have hb : (fun a b : Fin 8192 => comparator_i32_i32_d0 (D ((ix1 r : S8192.Idx).along ⟨0, hd⟩ a), (iotaInDim S8192 32 0 : IVec S8192 32) ((ix1 r : S8192.Idx).along ⟨0, hd⟩ a))
      (D ((ix1 r : S8192.Idx).along ⟨0, hd⟩ b), (iotaInDim S8192 32 0 : IVec S8192 32) ((ix1 r : S8192.Idx).along ⟨0, hd⟩ b)) == 1#1) = before (fun q => (D (ix1 q)).toNat) := by
    funext a b
    show (IntOp.cmpi .slt (D ((ix1 r : S8192.Idx).along ⟨0, hd⟩ a)) (D ((ix1 r : S8192.Idx).along ⟨0, hd⟩ b)) == 1#1) = decide ((D (ix1 a)).toNat < (D (ix1 b)).toNat)
    rw [e, e, WordCmp.cmpi_slt_of_lt (by have := hlt a; omega) (by have := hlt b; omega)]
    by_cases c : (D (ix1 a)).toNat < (D (ix1 b)).toNat <;> simp [c]
  have hs := (congrArg (fun f => sortedFrom (n := 8192) f r) hb).trans (sortedFrom_rank _ p r h)
  unfold order Host.sort2
  rw [dif_pos hd]
  exact (congrArg (fun c : Fin 8192 => (iotaInDim S8192 32 0 : IVec S8192 32) ((ix1 r : S8192.Idx).along ⟨0, hd⟩ c)) hs).trans
    ((congrArg (iotaInDim S8192 32 0 : IVec S8192 32) (e _ _)).trans rfl)

theorem refOut_at (b : Fin 1024) : refOut A D (ix2 r b) = A (ix2 p b) := by
  refine (Routing.gather_row _ rfl rfl rfl rfl rfl _ _ r b p ?_ (by decide)).trans rfl
  refine (Routing.bcCol bcast_S8192_S8192x1_0 _ r).trans ?_
  have ho := order_at D hlt p r h
  show Scalar.select (IntOp.cmpi .slt (order D (ix1 r)) 0#32) _ (order D (ix1 r)) = _
  rw [Routing.wrap_of_lt, ho]
  rw [ho, BitVec.toNat_ofNat]
  have := p.isLt
  omega

end Cert.ReferenceIdeal.Value

end
-- ==== Proof.Mask.lean ====
/- The mask of the claim: which routings it admits. Where it holds, every source sends each destination at most 576 rows and every destination
   receives exactly 2048. -/
module

public import proofs.«01_k».proof.On_routed
public import proofs.«01_k».proof.Proof.Counting
public import proofs.«01_k».proof.Proof.Words
public import Idealize.ShloMosaic.Lib.ReduceAll
public import Idealize.ShloMosaic.Lib.Routing.Ops

@[expose] public section

set_option maxRecDepth 16384

namespace Cert.On_routed

open Idealize.ShloMosaic Cert.Counting

instance facts : Facts where
  shapeCasts_S8192_S1x4x2048 := by decide
  shapeCasts_S4_S4x1x1 := by decide
  bcast_S1x4x2048_S4x4x2048_0_1_2 := by decide
  bcast_S4x1x1_S4x4x2048_0_1_2 := by decide
  natLt_1_32 := by decide
  reducesTo_S4x4x2048_S4x4_d2 := by decide
  h_S_ := by decide
  reducesTo_S4x4_S4_d1 := by decide
  bcast_S_S4 := by decide
  reducesTo_S4_S_d0 := by decide
  bcast_S_S4x4 := by decide
  reducesTo_S4x4_S_d0_1 := by decide
  bcast_S_S8192x1024 := by decide

noncomputable section

/-- The destination of row `i` of source `s`, as a natural. -/
def dest (D : IVec S8192 32) (s i : Nat) : Nat := if h : s * 2048 + i < 8192 then (D (ix1 ⟨s * 2048 + i, h⟩)).toNat else 0

theorem dest_eq (D : IVec S8192 32) (s : Fin 4) (i : Fin 2048) : dest D s.val i.val = (D (ix1 ⟨s.val * 2048 + i.val, by omega⟩)).toNat := by
  unfold dest
  rw [dif_pos (by omega)]

/-- Whether row `i` of source `s` goes to `r`, as words. -/
def hit (D : IVec S8192 32) : IVec S4x4x2048 32 :=
  extui 32 (cmpi .eq (broadcastInDim S4x4x2048 ![0, 1, 2] Facts.bcast_S1x4x2048_S4x4x2048_0_1_2 (shapeCast S1x4x2048 D Facts.shapeCasts_S8192_S1x4x2048))
    (broadcastInDim S4x4x2048 ![0, 1, 2] Facts.bcast_S4x1x1_S4x4x2048_0_1_2 (shapeCast S4x1x1 (iotaInDim S4 32 0) Facts.shapeCasts_S4_S4x1x1))) Facts.natLt_1_32

/-- How many rows go to `r` from `s`. -/
def pairs (D : IVec S8192 32) : IVec S4x4 32 :=
  Host.reduce IntOp.addi (hit D) (constantI S_ 32 0#32) Facts.reducesTo_S4x4x2048_S4x4_d2 Facts.h_S_

/-- How many rows go to `r` at all. -/
def totals (D : IVec S8192 32) : IVec S4 32 :=
  Host.reduce IntOp.addi (pairs D) (constantI S_ 32 0#32) Facts.reducesTo_S4x4_S4_d1 Facts.h_S_

theorem hit_at (D : IVec S8192 32) (r s : Fin 4) (i : Fin 2048) :
    hit D (ix3 r s i) = BitVec.ofNat 32 (if dest D s.val i.val = r.val then 1 else 0) := by
  pointwise [hit]
  rw [Words.hot_eq, dest_eq D s i]
  have h : (D (ix1 ⟨s.val * 2048 + i.val, by omega⟩) = BitVec.ofNat 32 r.val) = ((D (ix1 ⟨s.val * 2048 + i.val, by omega⟩)).toNat = r.val) := by
    rw [← BitVec.toNat_inj, BitVec.toNat_ofNat, Nat.mod_eq_of_lt (by have := r.isLt; omega)]
  simp only [h]

/-- The words hold the counts. -/
theorem pairs_at (D : IVec S8192 32) (r s : Fin 4) : pairs D (ix2 r s) = BitVec.ofNat 32 (N (dest D) s.val r.val) := by
  pointwise [pairs]
  exact Words.fold_count 2048 (fun i => dest D s.val i = r.val) _ fun i => hit_at D r s i

theorem totals_at (D : IVec S8192 32) (r : Fin 4) :
    totals D (ix1 r) = BitVec.ofNat 32 (N (dest D) 0 r.val + N (dest D) 1 r.val + N (dest D) 2 r.val + N (dest D) 3 r.val) := by
  pointwise [totals]
  rw [Words.fold_eq _ (fun s : Fin 4 => N (dest D) s.val r.val) fun s => pairs_at D r s]
  simp only [Fin.sum_univ_four]
  rfl

/-- Where the mask is 1, its two conjuncts hold everywhere. -/
theorem fn_spec {F : FTy → Type} [FloatOps F] (a : FVec F S8192x1024 .bf16) (D : IVec S8192 32) (p : S8192x1024.Idx) (h : fn a D p = 1#1) :
    (∀ r, IntOp.cmpi .eq (totals D (ix1 r)) 2048#32 = 1#1) ∧ ∀ r s, IntOp.cmpi .sle (pairs D (ix2 r s)) 576#32 = 1#1 := by
  have h' : IntOp.andi (Host.reduce IntOp.andi (cmpi .eq (totals D) (broadcastInDim S4 ![] Facts.bcast_S_S4 (constantI S_ 32 2048#32))) (constantI S_ 1 1#1) Facts.reducesTo_S4_S_d0 Facts.h_S_ ValueIdx.ix0)
      (Host.reduce IntOp.andi (cmpi .sle (pairs D) (broadcastInDim S4x4 ![] Facts.bcast_S_S4x4 (constantI S_ 32 576#32))) (constantI S_ 1 1#1) Facts.reducesTo_S4x4_S_d0_1 Facts.h_S_ ValueIdx.ix0) = 1#1 := by
    refine Eq.trans ?_ h
    refine Eq.symm ?_
    unfold fn
    exact Routing.bc0 Facts.bcast_S_S8192x1024 _ p
  obtain ⟨h1, h2⟩ := IntOp.andi_eq_one.1 h'
  have : Subsingleton S_.Idx := ⟨fun a b => funext fun x => x.elim0⟩
  exact ⟨fun r => Host.reduce_andi_all _ _ _ _ _ h1 (ix1 r), fun r s => Host.reduce_andi_all _ _ _ _ _ h2 (ix2 r s)⟩

/-- A routing the mask admits is balanced and fits the buffers. -/
theorem routed {F : FTy → Type} [FloatOps F] (a : FVec F S8192x1024 .bf16) (D : IVec S8192 32) (p : S8192x1024.Idx) (h : fn a D p = 1#1) : Routed (dest D) := by
  obtain ⟨h1, h2⟩ := fn_spec a D p h
  have hN : ∀ s r, N (dest D) s r ≤ 2048 := fun s r => Nat.count_le _
  refine Routed.of_counts (fun y hy => ?_) fun s y hs hy => ?_
  · have e := h1 ⟨y, hy⟩
    rw [totals_at, WordCmp.cmpi_eq_ofNat] at e
    · by_contra hne
      rw [decide_eq_false hne] at e
      exact absurd e (by decide)
    all_goals
      have := hN 0 y; have := hN 1 y; have := hN 2 y; have := hN 3 y
      simp only at *
      omega
  · have e := h2 ⟨y, hy⟩ ⟨s, hs⟩
    rw [pairs_at, WordCmp.cmpi_sle_ofNat] at e
    · by_contra hne
      rw [decide_eq_false hne] at e
      exact absurd e (by decide)
    all_goals
      have := hN s y
      simp only at *
      omega

end

end Cert.On_routed
-- ==== Proof.Equation.lean ====
/- The kernel computes the reference: device by device and row by row, wherever the mask admits the routing. -/
module

public import proofs.«01_k».proof.Proof.Frames
public import proofs.«01_k».proof.Proof.Ker
public import proofs.«01_k».proof.Proof.Ref
public import proofs.«01_k».proof.Proof.Mask

@[expose] public section

set_option maxRecDepth 16384

noncomputable section

namespace Cert.Proof

open Idealize.ShloMosaic Idealize.SL.Sem Cert.KernelIdeal.A2A Cert.Counting

/-- The block of rows a device holds, and the block of destinations. -/
theorem block2_val (c : Dev Cert.KernelIdeal.nD) : ((Layout.meshBlock [2, 4, 4] ![[1], []] c) 0).val = (yc c).val ∧ ((Layout.meshBlock [2, 4, 4] ![[1], []] c) 1).val = 0 := by
  revert c; decide
theorem block1_val (c : Dev Cert.KernelIdeal.nD) : ((Layout.meshBlock [2, 4, 4] ![[1]] c) 0).val = (yc c).val := by
  revert c; decide

theorem block2_at {α : Type} (c : Dev Cert.KernelIdeal.nD) (v : (⟨2, ![8192, 1024]⟩ : Shape).Idx → α) (r : Fin 2048) (b : Fin 1024) :
    Layout.blockN ⟨2, ![2048, 1024]⟩ ⟨2, ![8192, 1024]⟩ (Layout.meshBlock [2, 4, 4] ![[1], []] c) v (by decide) (ix2 r b)
      = v (ix2 ⟨(yc c).val * 2048 + r.val, by omega⟩ b) := by
  unfold Layout.blockN
  refine congrArg v (funext fun a => Fin.ext ?_)
  rw [Layout.TilesN.idx_val]
  match a with
  | ⟨0, _⟩ => exact congrArg (· * 2048 + r.val) (block2_val c).1
  | ⟨1, _⟩ => exact (congrArg (· * 1024 + b.val) (block2_val c).2).trans (by show 0 * 1024 + b.val = b.val; omega)

theorem block1_at {α : Type} (c : Dev Cert.KernelIdeal.nD) (v : (⟨1, ![8192]⟩ : Shape).Idx → α) (r : Fin 2048) :
    Layout.blockN ⟨1, ![2048]⟩ ⟨1, ![8192]⟩ (Layout.meshBlock [2, 4, 4] ![[1]] c) v (by decide) (ix1 r)
      = v (ix1 ⟨(yc c).val * 2048 + r.val, by omega⟩) := by
  unfold Layout.blockN
  refine congrArg v (funext fun a => Fin.ext ?_)
  rw [Layout.TilesN.idx_val]
  match a with
  | ⟨0, _⟩ => exact congrArg (· * 2048 + r.val) (block1_val c)

open Cert.On_routed (dest)

/-- The rows before row `i` of source `s` in the sorted order, counted. -/
theorem card_lex (D : IVec Cert.On_routed.S8192 32) (hR : Routed (dest D)) (s i : Nat) (hs : s < 4) (hi : i < 2048) :
    (Finset.univ.filter fun q : Fin 8192 => Counting.Lex (fun q => (D (ix1 q)).toNat) q ⟨s * 2048 + i, by omega⟩).card
      = dest D s i * 2048 + (st (dest D) (dest D s i) s + pos (dest D) s i) := by
  have hq : ∀ q : Fin 8192, (D (ix1 q)).toNat = flatD (dest D) q.val := fun q => by
    have h := Cert.On_routed.dest_eq D ⟨q.val / 2048, by omega⟩ ⟨q.val % 2048, by omega⟩
    refine Eq.trans ?_ h.symm
    congr 3
    exact Fin.ext (by show q.val = q.val / 2048 * 2048 + q.val % 2048; omega)
  have hk := hR.rank s i hs hi
  rw [Nat.mul_comm 2048 (dest D s i), Nat.mul_comm 2048 s] at hk
  rw [← hk, ← Routing.card_filter_fin]
  refine congrArg Finset.card (Finset.filter_congr fun q _ => ?_)
  unfold Counting.Lex
  simp only [hq]

theorem algebraic : Cert.algebraic_KernelIdeal_ReferenceIdeal_on_routed (hKernelIdeal := Cert.KernelIdeal.Gen.facts)
    (hReferenceIdeal := Cert.ReferenceIdeal.Gen.facts) (hOn_routed := Cert.On_routed.facts) := by
  intro m g m' g' _ hin
  let A : FVec Ideal Cert.ReferenceIdeal.S8192x1024 .bf16 := m' (((0 : Dev Cert.ReferenceIdeal.nD).tc : Thread Cert.ReferenceIdeal.nD Cert.ReferenceIdeal.τ).loc Cert.ReferenceIdeal.main_arg0)
  let D : IVec Cert.ReferenceIdeal.S8192 32 := m' (((0 : Dev Cert.ReferenceIdeal.nD).tc : Thread Cert.ReferenceIdeal.nD Cert.ReferenceIdeal.τ).loc Cert.ReferenceIdeal.main_arg1)
  refine ⟨Cert.ReferenceIdeal.Value.refOut A D, ?_, ?_⟩
  · refine (θ_run Cert.KernelIdeal.defs _ _).mono (fun r h c => ⟨fun i hi => ?_, (h.1 c).1, (h.1 c).2.1⟩) (run_main (F := Ideal) m g)
    have hR : Routed (dest D) := Cert.On_routed.routed A D _ hi
    have hd : ∀ (c : Dev Cert.KernelIdeal.nD) (i : Fin 2048), av m c (ix1 i) = BitVec.ofNat 32 (dest D (yc c).val i.val) := fun c i => by
      have h1 : av m c (ix1 i) = D (ix1 ⟨(yc c).val * 2048 + i.val, by omega⟩) := (congrFun (hin c).2 (ix1 i)).trans (block1_at c D i)
      rw [h1, Cert.On_routed.dest_eq, BitVec.ofNat_toNat, BitVec.setWidth_eq]
    have hx : ∀ (c : Dev Cert.KernelIdeal.nD) (i : Fin 2048) (b : Fin 1024), xv m c (ix2 i b) = A (ix2 ⟨(yc c).val * 2048 + i.val, by omega⟩ b) := fun c i b => by
      rw [xv_eq]
      exact (congrFun (hin c).1 (ix2 i b)).trans (block2_at c A i b)
    obtain ⟨row, b, rfl⟩ : ∃ (row : Fin 2048) (b : Fin 1024), i = ix2 row b := ⟨i 0, i 1, by
      funext a
      match a with
      | ⟨0, _⟩ => rfl
      | ⟨1, _⟩ => rfl⟩
    obtain ⟨s, j, hs, hj, hdj, -, hpos⟩ := hR.find (yc c).val row.val (yc c).isLt row.isLt
    have hk := out3_at m c (dest D) hd hR row ⟨s, hs⟩ ⟨j, hj⟩ hdj hpos b
    rw [hx] at hk
    simp only [yc_src] at hk
    have hc := card_lex D hR s j hs hj
    rw [hdj, hpos] at hc
    have hlt : ∀ q, (D (ValueIdx.ix1 q)).toNat < 4 := fun q => by
      have h1 := Cert.On_routed.dest_eq D ⟨q.val / 2048, by omega⟩ ⟨q.val % 2048, by omega⟩
      have h2 := hR.lt (q.val / 2048) (q.val % 2048) (by omega) (by omega)
      rw [h1] at h2
      refine lt_of_eq_of_lt ?_ h2
      rw [← ix1_eq_valueIdx]
      congr 3
      exact Fin.ext (by show q.val = q.val / 2048 * 2048 + q.val % 2048; omega)
    have hr := Cert.ReferenceIdeal.Value.refOut_at A D hlt ⟨s * 2048 + j, by omega⟩ ⟨(yc c).val * 2048 + row.val, by omega⟩
      (by simp only [← ix1_eq_valueIdx]; exact hc) b
    rw [← ix2_eq_valueIdx, ← ix2_eq_valueIdx] at hr
    refine (congrFun (h.1 c).2.2 (ix2 row b)).trans (hk.trans ?_)
    exact hr.symm.trans (block2_at c (Cert.ReferenceIdeal.Value.refOut A D) row b).symm
  · exact (θ_run (Cert.ReferenceIdeal.defs (F := Ideal)) _ _).mono (fun r h => ⟨fun i _ => congrFun (h 0).1 i, (h 0).2.1, (h 0).2.2⟩)
      (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_routed.facts,
  frame_kernel, frame_ideal, frame_ref, trivial, algebraic⟩

end Cert.Proof

end
